-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_cst_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16384x26 : Shape := ⟨3, ![8, 16384, 26]⟩
abbrev S131072x26 : Shape := ⟨2, ![131072, 26]⟩
abbrev S2x131072x26 : Shape := ⟨3, ![2, 131072, 26]⟩
abbrev S8192x26 : Shape := ⟨2, ![8192, 26]⟩
abbrev S2x8192x26 : Shape := ⟨3, ![2, 8192, 26]⟩
abbrev S26x8192 : Shape := ⟨2, ![26, 8192]⟩
abbrev S1x8192x26 : Shape := ⟨3, ![1, 8192, 26]⟩
abbrev S16x16384x26 : Shape := ⟨3, ![16, 16384, 26]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S8x16384x26, .i32⟩
  | .hbm, ⟨1, _⟩ => ⟨S131072x26, .i32⟩
  | .hbm, ⟨2, _⟩ => ⟨S2x131072x26, .i32⟩
  | .hbm, ⟨3, _⟩ => ⟨S16x16384x26, .i32⟩
  | .hbm, ⟨4, _⟩ => ⟨S_, .f32⟩
  | .local _ .vmem, ⟨0, _⟩ => ⟨S8192x26, .i32⟩
  | .local _ .vmem, ⟨1, _⟩ => ⟨S8192x26, .i32⟩
  | .local _ .vmem, ⟨2, _⟩ => ⟨S2x8192x26, .i32⟩
  | .local _ .vmem, ⟨3, _⟩ => ⟨S2x8192x26, .i32⟩
  | _, _ => ⟨S8x16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8192x26 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8192x26 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x16384x26 : Shape := ⟨3, ![8, 16384, 26]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1x1 : Shape := ⟨3, ![1, 1, 1]⟩
abbrev S16x16384x26 : Shape := ⟨3, ![16, 16384, 26]⟩

abbrev nBuf : Space → Nat
  | .hbm => 1318
  | .vmem => 0
  | .smem => 0
  | _ => 0

abbrev hbmTy0_0 (i : Nat) : BufTy := match i % 128 with
  | 0 => ⟨S8x16384x26, .i32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S8x16384x26, .i32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .f32⟩
  | 126 => ⟨S_, .f32⟩
  | 127 => ⟨S_, .f32⟩
  | _ => ⟨S8x16384x26, .i32⟩

abbrev hbmTy0_2 (i : Nat) : BufTy := match i % 128 with
  | 0 => ⟨S_, .f32⟩
  | 1 => ⟨S_, .f32⟩
  | 2 => ⟨S1x1x1, .f32⟩
  | 3 => ⟨S1x1x1, .f32⟩
  | 4 => ⟨S1, .i32⟩
  | 5 => ⟨S_, .i32⟩
  | 6 => ⟨S1, .i32⟩
  | 7 => ⟨S_, .i32⟩
  | 8 => ⟨S8x16384x26, .i64⟩
  | 9 => ⟨S8x16384x26, .i64⟩
  | 10 => ⟨S8x16384x26, .i64⟩
  | 11 => ⟨S_, .i64⟩
  | 12 => ⟨S8x16384x26, .i64⟩
  | 13 => ⟨S8x16384x26, .i64⟩
  | 14 => ⟨S_, .i64⟩
  | 15 => ⟨S8x16384x26, .i64⟩
  | 16 => ⟨S8x16384x26, .i64⟩
  | 17 => ⟨S_, .i64⟩
  | 18 => ⟨S8x16384x26, .i64⟩
  | 19 => ⟨S8x16384x26, .i64⟩
  | 20 => ⟨S8x16384x26, .i64⟩
  | 21 => ⟨S8x16384x26, .i64⟩
  | 22 => ⟨S_, .i64⟩
  | 23 => ⟨S8x16384x26, .i64⟩
  | 24 => ⟨S8x16384x26, .i64⟩
  | 25 => ⟨S8x16384x26, .i32⟩
  | 26 => ⟨S8x16384x26, .i32⟩
  | 27 => ⟨S_, .i32⟩
  | 28 => ⟨S_, .i32⟩
  | 29 => ⟨S_, .i32⟩
  | 30 => ⟨S8x16384x26, .i32⟩
  | 31 => ⟨S8x16384x26, .i32⟩
  | 32 => ⟨S8x16384x26, .i32⟩
  | 33 => ⟨S8x16384x26, .i32⟩
  | 34 => ⟨S8x16384x26, .i32⟩
  | 35 => ⟨S_, .i32⟩
  | 36 => ⟨S8x16384x26, .i32⟩
  | 37 => ⟨S8x16384x26, .i32⟩
  | 38 => ⟨S_, .i32⟩
  | 39 => ⟨S8x16384x26, .i32⟩
  | 40 => ⟨S8x16384x26, .i32⟩
  | 41 => ⟨S8x16384x26, .i32⟩
  | 42 => ⟨S8x16384x26, .i32⟩
  | 43 => ⟨S8x16384x26, .i32⟩
  | 44 => ⟨S_, .i32⟩
  | 45 => ⟨S8x16384x26, .i32⟩
  | 46 => ⟨S8x16384x26, .i32⟩
  | 47 => ⟨S_, .i32⟩
  | 48 => ⟨S8x16384x26, .i32⟩
  | 49 => ⟨S8x16384x26, .i32⟩
  | 50 => ⟨S8x16384x26, .i32⟩
  | 51 => ⟨S8x16384x26, .i32⟩
  | 52 => ⟨S8x16384x26, .i32⟩
  | 53 => ⟨S_, .i32⟩
  | 54 => ⟨S8x16384x26, .i32⟩
  | 55 => ⟨S8x16384x26, .i32⟩
  | 56 => ⟨S_, .i32⟩
  | 57 => ⟨S8x16384x26, .i32⟩
  | 58 => ⟨S8x16384x26, .i32⟩
  | 59 => ⟨S8x16384x26, .i32⟩
  | 60 => ⟨S8x16384x26, .i32⟩
  | 61 => ⟨S8x16384x26, .i32⟩
  | 62 => ⟨S_, .i32⟩
  | 63 => ⟨S8x16384x26, .i32⟩
  | 64 => ⟨S8x16384x26, .i32⟩
  | 65 => ⟨S_, .i32⟩
  | 66 => ⟨S8x16384x26, .i32⟩
  | 67 => ⟨S8x16384x26, .i32⟩
  | 68 => ⟨S8x16384x26, .i32⟩
  | 69 => ⟨S8x16384x26, .i32⟩
  | 70 => ⟨S8x16384x26, .i32⟩
  | 71 => ⟨S8x16384x26, .i32⟩
  | 72 => ⟨S8x16384x26, .i32⟩
  | 73 => ⟨S8x16384x26, .i32⟩
  | 74 => ⟨S_, .i32⟩
  | 75 => ⟨S8x16384x26, .i32⟩
  | 76 => ⟨S8x16384x26, .i32⟩
  | 77 => ⟨S8x16384x26, .i32⟩
  | 78 => ⟨S_, .i32⟩
  | 79 => ⟨S8x16384x26, .i32⟩
  | 80 => ⟨S8x16384x26, .i32⟩
  | 81 => ⟨S_, .i32⟩
  | 82 => ⟨S8x16384x26, .i32⟩
  | 83 => ⟨S8x16384x26, .i32⟩
  | 84 => ⟨S8x16384x26, .i32⟩
  | 85 => ⟨S8x16384x26, .i32⟩
  | 86 => ⟨S8x16384x26, .i32⟩
  | 87 => ⟨S_, .i32⟩
  | 88 => ⟨S8x16384x26, .i32⟩
  | 89 => ⟨S8x16384x26, .i32⟩
  | 90 => ⟨S_, .i32⟩
  | 91 => ⟨S8x16384x26, .i32⟩
  | 92 => ⟨S8x16384x26, .i32⟩
  | 93 => ⟨S8x16384x26, .i32⟩
  | 94 => ⟨S8x16384x26, .i32⟩
  | 95 => ⟨S8x16384x26, .i32⟩
  | 96 => ⟨S_, .i32⟩
  | 97 => ⟨S8x16384x26, .i32⟩
  | 98 => ⟨S8x16384x26, .i32⟩
  | 99 => ⟨S_, .i32⟩
  | 100 => ⟨S8x16384x26, .i32⟩
  | 101 => ⟨S8x16384x26, .i32⟩
  | 102 => ⟨S8x16384x26, .i32⟩
  | 103 => ⟨S8x16384x26, .i32⟩
  | 104 => ⟨S8x16384x26, .i32⟩
  | 105 => ⟨S_, .i32⟩
  | 106 => ⟨S8x16384x26, .i32⟩
  | 107 => ⟨S8x16384x26, .i32⟩
  | 108 => ⟨S_, .i32⟩
  | 109 => ⟨S8x16384x26, .i32⟩
  | 110 => ⟨S8x16384x26, .i32⟩
  | 111 => ⟨S8x16384x26, .i32⟩
  | 112 => ⟨S8x16384x26, .i32⟩
  | 113 => ⟨S8x16384x26, .i32⟩
  | 114 => ⟨S8x16384x26, .i32⟩
  | 115 => ⟨S8x16384x26, .i32⟩
  | 116 => ⟨S8x16384x26, .i32⟩
  | 117 => ⟨S_, .i32⟩
  | 118 => ⟨S8x16384x26, .i32⟩
  | 119 => ⟨S8x16384x26, .i32⟩
  | 120 => ⟨S8x16384x26, .i32⟩
  | 121 => ⟨S_, .i32⟩
  | 122 => ⟨S8x16384x26, .i32⟩
  | 123 => ⟨S8x16384x26, .i32⟩
  | 124 => ⟨S_, .i32⟩
  | 125 => ⟨S8x16384x26, .i32⟩
  | 126 => ⟨S8x16384x26, .i32⟩
  | 127 => ⟨S8x16384x26, .i32⟩
  | _ => ⟨S8x16384x26, .i32⟩

abbrev hbmTy0_3 (i : Nat) : BufTy := match i % 128 with
  | 0 => ⟨S8x16384x26, .i32⟩
  | 1 => ⟨S8x16384x26, .i32⟩
  | 2 => ⟨S_, .i32⟩
  | 3 => ⟨S8x16384x26, .i32⟩
  | 4 => ⟨S8x16384x26, .i32⟩
  | 5 => ⟨S_, .i32⟩
  | 6 => ⟨S8x16384x26, .i32⟩
  | 7 => ⟨S8x16384x26, .i32⟩
  | 8 => ⟨S8x16384x26, .i32⟩
  | 9 => ⟨S8x16384x26, .i32⟩
  | 10 => ⟨S8x16384x26, .i32⟩
  | 11 => ⟨S_, .i32⟩
  | 12 => ⟨S8x16384x26, .i32⟩
  | 13 => ⟨S8x16384x26, .i32⟩
  | 14 => ⟨S_, .i32⟩
  | 15 => ⟨S8x16384x26, .i32⟩
  | 16 => ⟨S8x16384x26, .i32⟩
  | 17 => ⟨S8x16384x26, .i32⟩
  | 18 => ⟨S8x16384x26, .i32⟩
  | 19 => ⟨S8x16384x26, .i32⟩
  | 20 => ⟨S_, .i32⟩
  | 21 => ⟨S8x16384x26, .i32⟩
  | 22 => ⟨S8x16384x26, .i32⟩
  | 23 => ⟨S_, .i32⟩
  | 24 => ⟨S8x16384x26, .i32⟩
  | 25 => ⟨S8x16384x26, .i32⟩
  | 26 => ⟨S8x16384x26, .i32⟩
  | 27 => ⟨S8x16384x26, .i32⟩
  | 28 => ⟨S8x16384x26, .i32⟩
  | 29 => ⟨S8x16384x26, .i32⟩
  | 30 => ⟨S8x16384x26, .i32⟩
  | 31 => ⟨S8x16384x26, .i32⟩
  | 32 => ⟨S_, .i32⟩
  | 33 => ⟨S8x16384x26, .i32⟩
  | 34 => ⟨S8x16384x26, .i32⟩
  | 35 => ⟨S8x16384x26, .i32⟩
  | 36 => ⟨S_, .i32⟩
  | 37 => ⟨S8x16384x26, .i32⟩
  | 38 => ⟨S8x16384x26, .i32⟩
  | 39 => ⟨S_, .i32⟩
  | 40 => ⟨S8x16384x26, .i32⟩
  | 41 => ⟨S8x16384x26, .i32⟩
  | 42 => ⟨S8x16384x26, .i32⟩
  | 43 => ⟨S8x16384x26, .i32⟩
  | 44 => ⟨S8x16384x26, .i32⟩
  | 45 => ⟨S_, .i32⟩
  | 46 => ⟨S8x16384x26, .i32⟩
  | 47 => ⟨S8x16384x26, .i32⟩
  | 48 => ⟨S_, .i32⟩
  | 49 => ⟨S8x16384x26, .i32⟩
  | 50 => ⟨S8x16384x26, .i32⟩
  | 51 => ⟨S8x16384x26, .i32⟩
  | 52 => ⟨S8x16384x26, .i32⟩
  | 53 => ⟨S8x16384x26, .i32⟩
  | 54 => ⟨S_, .i32⟩
  | 55 => ⟨S8x16384x26, .i32⟩
  | 56 => ⟨S8x16384x26, .i32⟩
  | 57 => ⟨S_, .i32⟩
  | 58 => ⟨S8x16384x26, .i32⟩
  | 59 => ⟨S8x16384x26, .i32⟩
  | 60 => ⟨S8x16384x26, .i32⟩
  | 61 => ⟨S8x16384x26, .i32⟩
  | 62 => ⟨S8x16384x26, .i32⟩
  | 63 => ⟨S_, .i32⟩
  | 64 => ⟨S8x16384x26, .i32⟩
  | 65 => ⟨S8x16384x26, .i32⟩
  | 66 => ⟨S_, .i32⟩
  | 67 => ⟨S8x16384x26, .i32⟩
  | 68 => ⟨S8x16384x26, .i32⟩
  | 69 => ⟨S8x16384x26, .i32⟩
  | 70 => ⟨S8x16384x26, .i32⟩
  | 71 => ⟨S8x16384x26, .i32⟩
  | 72 => ⟨S8x16384x26, .i32⟩
  | 73 => ⟨S8x16384x26, .i32⟩
  | 74 => ⟨S8x16384x26, .i32⟩
  | 75 => ⟨S_, .i32⟩
  | 76 => ⟨S8x16384x26, .i32⟩
  | 77 => ⟨S8x16384x26, .i32⟩
  | 78 => ⟨S8x16384x26, .i32⟩
  | 79 => ⟨S_, .i32⟩
  | 80 => ⟨S8x16384x26, .i32⟩
  | 81 => ⟨S8x16384x26, .i32⟩
  | 82 => ⟨S_, .i32⟩
  | 83 => ⟨S8x16384x26, .i32⟩
  | 84 => ⟨S8x16384x26, .i32⟩
  | 85 => ⟨S8x16384x26, .i32⟩
  | 86 => ⟨S8x16384x26, .i32⟩
  | 87 => ⟨S8x16384x26, .i32⟩
  | 88 => ⟨S_, .i32⟩
  | 89 => ⟨S8x16384x26, .i32⟩
  | 90 => ⟨S8x16384x26, .i32⟩
  | 91 => ⟨S_, .i32⟩
  | 92 => ⟨S8x16384x26, .i32⟩
  | 93 => ⟨S8x16384x26, .i32⟩
  | 94 => ⟨S8x16384x26, .i32⟩
  | 95 => ⟨S8x16384x26, .i32⟩
  | 96 => ⟨S8x16384x26, .i32⟩
  | 97 => ⟨S_, .i32⟩
  | 98 => ⟨S8x16384x26, .i32⟩
  | 99 => ⟨S8x16384x26, .i32⟩
  | 100 => ⟨S_, .i32⟩
  | 101 => ⟨S8x16384x26, .i32⟩
  | 102 => ⟨S8x16384x26, .i32⟩
  | 103 => ⟨S8x16384x26, .i32⟩
  | 104 => ⟨S8x16384x26, .i32⟩
  | 105 => ⟨S8x16384x26, .i32⟩
  | 106 => ⟨S_, .i32⟩
  | 107 => ⟨S8x16384x26, .i32⟩
  | 108 => ⟨S8x16384x26, .i32⟩
  | 109 => ⟨S_, .i32⟩
  | 110 => ⟨S8x16384x26, .i32⟩
  | 111 => ⟨S8x16384x26, .i32⟩
  | 112 => ⟨S8x16384x26, .i32⟩
  | 113 => ⟨S8x16384x26, .i32⟩
  | 114 => ⟨S8x16384x26, .i32⟩
  | 115 => ⟨S8x16384x26, .i32⟩
  | 116 => ⟨S8x16384x26, .i32⟩
  | 117 => ⟨S8x16384x26, .i32⟩
  | 118 => ⟨S_, .i32⟩
  | 119 => ⟨S8x16384x26, .i32⟩
  | 120 => ⟨S8x16384x26, .i32⟩
  | 121 => ⟨S8x16384x26, .i32⟩
  | 122 => ⟨S_, .i32⟩
  | 123 => ⟨S8x16384x26, .i32⟩
  | 124 => ⟨S8x16384x26, .i32⟩
  | 125 => ⟨S_, .i32⟩
  | 126 => ⟨S8x16384x26, .i32⟩
  | 127 => ⟨S8x16384x26, .i32⟩
  | _ => ⟨S8x16384x26, .i32⟩

abbrev hbmTy0_4 (i : Nat) : BufTy := match i % 128 with
  | 0 => ⟨S8x16384x26, .f32⟩
  | 1 => ⟨S_, .f32⟩
  | 2 => ⟨S8x16384x26, .f32⟩
  | 3 => ⟨S8x16384x26, .f32⟩
  | 4 => ⟨S1x1x1, .f32⟩
  | 5 => ⟨S8x16384x26, .f32⟩
  | 6 => ⟨S8x16384x26, .f32⟩
  | 7 => ⟨S8x16384x26, .f32⟩
  | 8 => ⟨S8x16384x26, .f32⟩
  | 9 => ⟨S8x16384x26, .f32⟩
  | 10 => ⟨S8x16384x26, .f32⟩
  | 11 => ⟨S8x16384x26, .f32⟩
  | 12 => ⟨S8x16384x26, .i1⟩
  | 13 => ⟨S8x16384x26, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S1x1x1, .i32⟩
  | 33 => ⟨S1x1x1, .i32⟩
  | 34 => ⟨S1, .i32⟩
  | 35 => ⟨S_, .i32⟩
  | 36 => ⟨S1, .i32⟩
  | 37 => ⟨S_, .i32⟩
  | 38 => ⟨S2, .i64⟩
  | 39 => ⟨S_, .i64⟩
  | 40 => ⟨S2, .i64⟩
  | 41 => ⟨S2, .i64⟩
  | 42 => ⟨S_, .i64⟩
  | 43 => ⟨S2, .i64⟩
  | 44 => ⟨S2, .i64⟩
  | 45 => ⟨S2, .i32⟩
  | 46 => ⟨S2, .i32⟩
  | 47 => ⟨S_, .i32⟩
  | 48 => ⟨S_, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S8x16384x26, .i32⟩

abbrev hbmTy0_5 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S8x16384x26, .i32⟩

abbrev hbmTy0_6 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2x1, .i32⟩
  | 14 => ⟨S2x1, .i32⟩
  | 15 => ⟨S2x2, .i32⟩
  | 16 => ⟨S1x2, .i32⟩
  | 17 => ⟨S2, .i32⟩
  | 18 => ⟨S1x2, .i32⟩
  | 19 => ⟨S2, .i32⟩
  | 20 => ⟨S1, .i32⟩
  | 21 => ⟨S_, .i32⟩
  | 22 => ⟨S1, .i32⟩
  | 23 => ⟨S_, .i32⟩
  | 24 => ⟨S8x16384x26, .i64⟩
  | 25 => ⟨S8x16384x26, .i64⟩
  | 26 => ⟨S8x16384x26, .i64⟩
  | 27 => ⟨S_, .i64⟩
  | 28 => ⟨S8x16384x26, .i64⟩
  | 29 => ⟨S8x16384x26, .i64⟩
  | 30 => ⟨S_, .i64⟩
  | 31 => ⟨S8x16384x26, .i64⟩
  | 32 => ⟨S8x16384x26, .i64⟩
  | 33 => ⟨S_, .i64⟩
  | 34 => ⟨S8x16384x26, .i64⟩
  | 35 => ⟨S8x16384x26, .i64⟩
  | 36 => ⟨S8x16384x26, .i64⟩
  | 37 => ⟨S8x16384x26, .i64⟩
  | 38 => ⟨S_, .i64⟩
  | 39 => ⟨S8x16384x26, .i64⟩
  | 40 => ⟨S8x16384x26, .i64⟩
  | 41 => ⟨S8x16384x26, .i32⟩
  | 42 => ⟨S8x16384x26, .i32⟩
  | 43 => ⟨S_, .i32⟩
  | 44 => ⟨S_, .i32⟩
  | 45 => ⟨S_, .i32⟩
  | 46 => ⟨S8x16384x26, .i32⟩
  | 47 => ⟨S8x16384x26, .i32⟩
  | 48 => ⟨S8x16384x26, .i32⟩
  | 49 => ⟨S8x16384x26, .i32⟩
  | 50 => ⟨S8x16384x26, .i32⟩
  | 51 => ⟨S_, .i32⟩
  | 52 => ⟨S8x16384x26, .i32⟩
  | 53 => ⟨S8x16384x26, .i32⟩
  | 54 => ⟨S_, .i32⟩
  | 55 => ⟨S8x16384x26, .i32⟩
  | 56 => ⟨S8x16384x26, .i32⟩
  | 57 => ⟨S8x16384x26, .i32⟩
  | 58 => ⟨S8x16384x26, .i32⟩
  | 59 => ⟨S8x16384x26, .i32⟩
  | 60 => ⟨S_, .i32⟩
  | 61 => ⟨S8x16384x26, .i32⟩
  | 62 => ⟨S8x16384x26, .i32⟩
  | 63 => ⟨S_, .i32⟩
  | 64 => ⟨S8x16384x26, .i32⟩
  | 65 => ⟨S8x16384x26, .i32⟩
  | 66 => ⟨S8x16384x26, .i32⟩
  | 67 => ⟨S8x16384x26, .i32⟩
  | 68 => ⟨S8x16384x26, .i32⟩
  | 69 => ⟨S_, .i32⟩
  | 70 => ⟨S8x16384x26, .i32⟩
  | 71 => ⟨S8x16384x26, .i32⟩
  | 72 => ⟨S_, .i32⟩
  | 73 => ⟨S8x16384x26, .i32⟩
  | 74 => ⟨S8x16384x26, .i32⟩
  | 75 => ⟨S8x16384x26, .i32⟩
  | 76 => ⟨S8x16384x26, .i32⟩
  | 77 => ⟨S8x16384x26, .i32⟩
  | 78 => ⟨S_, .i32⟩
  | 79 => ⟨S8x16384x26, .i32⟩
  | 80 => ⟨S8x16384x26, .i32⟩
  | 81 => ⟨S_, .i32⟩
  | 82 => ⟨S8x16384x26, .i32⟩
  | 83 => ⟨S8x16384x26, .i32⟩
  | 84 => ⟨S8x16384x26, .i32⟩
  | 85 => ⟨S8x16384x26, .i32⟩
  | 86 => ⟨S8x16384x26, .i32⟩
  | 87 => ⟨S8x16384x26, .i32⟩
  | 88 => ⟨S8x16384x26, .i32⟩
  | 89 => ⟨S8x16384x26, .i32⟩
  | 90 => ⟨S_, .i32⟩
  | 91 => ⟨S8x16384x26, .i32⟩
  | 92 => ⟨S8x16384x26, .i32⟩
  | 93 => ⟨S8x16384x26, .i32⟩
  | 94 => ⟨S_, .i32⟩
  | 95 => ⟨S8x16384x26, .i32⟩
  | 96 => ⟨S8x16384x26, .i32⟩
  | 97 => ⟨S_, .i32⟩
  | 98 => ⟨S8x16384x26, .i32⟩
  | 99 => ⟨S8x16384x26, .i32⟩
  | 100 => ⟨S8x16384x26, .i32⟩
  | 101 => ⟨S8x16384x26, .i32⟩
  | 102 => ⟨S8x16384x26, .i32⟩
  | 103 => ⟨S_, .i32⟩
  | 104 => ⟨S8x16384x26, .i32⟩
  | 105 => ⟨S8x16384x26, .i32⟩
  | 106 => ⟨S_, .i32⟩
  | 107 => ⟨S8x16384x26, .i32⟩
  | 108 => ⟨S8x16384x26, .i32⟩
  | 109 => ⟨S8x16384x26, .i32⟩
  | 110 => ⟨S8x16384x26, .i32⟩
  | 111 => ⟨S8x16384x26, .i32⟩
  | 112 => ⟨S_, .i32⟩
  | 113 => ⟨S8x16384x26, .i32⟩
  | 114 => ⟨S8x16384x26, .i32⟩
  | 115 => ⟨S_, .i32⟩
  | 116 => ⟨S8x16384x26, .i32⟩
  | 117 => ⟨S8x16384x26, .i32⟩
  | 118 => ⟨S8x16384x26, .i32⟩
  | 119 => ⟨S8x16384x26, .i32⟩
  | 120 => ⟨S8x16384x26, .i32⟩
  | 121 => ⟨S_, .i32⟩
  | 122 => ⟨S8x16384x26, .i32⟩
  | 123 => ⟨S8x16384x26, .i32⟩
  | 124 => ⟨S_, .i32⟩
  | 125 => ⟨S8x16384x26, .i32⟩
  | 126 => ⟨S8x16384x26, .i32⟩
  | 127 => ⟨S8x16384x26, .i32⟩
  | _ => ⟨S8x16384x26, .i32⟩

abbrev hbmTy0_7 (i : Nat) : BufTy := match i % 128 with
  | 0 => ⟨S8x16384x26, .i32⟩
  | 1 => ⟨S8x16384x26, .i32⟩
  | 2 => ⟨S8x16384x26, .i32⟩
  | 3 => ⟨S8x16384x26, .i32⟩
  | 4 => ⟨S8x16384x26, .i32⟩
  | 5 => ⟨S_, .i32⟩
  | 6 => ⟨S8x16384x26, .i32⟩
  | 7 => ⟨S8x16384x26, .i32⟩
  | 8 => ⟨S8x16384x26, .i32⟩
  | 9 => ⟨S_, .i32⟩
  | 10 => ⟨S8x16384x26, .i32⟩
  | 11 => ⟨S8x16384x26, .i32⟩
  | 12 => ⟨S_, .i32⟩
  | 13 => ⟨S8x16384x26, .i32⟩
  | 14 => ⟨S8x16384x26, .i32⟩
  | 15 => ⟨S8x16384x26, .i32⟩
  | 16 => ⟨S8x16384x26, .i32⟩
  | 17 => ⟨S8x16384x26, .i32⟩
  | 18 => ⟨S_, .i32⟩
  | 19 => ⟨S8x16384x26, .i32⟩
  | 20 => ⟨S8x16384x26, .i32⟩
  | 21 => ⟨S_, .i32⟩
  | 22 => ⟨S8x16384x26, .i32⟩
  | 23 => ⟨S8x16384x26, .i32⟩
  | 24 => ⟨S8x16384x26, .i32⟩
  | 25 => ⟨S8x16384x26, .i32⟩
  | 26 => ⟨S8x16384x26, .i32⟩
  | 27 => ⟨S_, .i32⟩
  | 28 => ⟨S8x16384x26, .i32⟩
  | 29 => ⟨S8x16384x26, .i32⟩
  | 30 => ⟨S_, .i32⟩
  | 31 => ⟨S8x16384x26, .i32⟩
  | 32 => ⟨S8x16384x26, .i32⟩
  | 33 => ⟨S8x16384x26, .i32⟩
  | 34 => ⟨S8x16384x26, .i32⟩
  | 35 => ⟨S8x16384x26, .i32⟩
  | 36 => ⟨S_, .i32⟩
  | 37 => ⟨S8x16384x26, .i32⟩
  | 38 => ⟨S8x16384x26, .i32⟩
  | 39 => ⟨S_, .i32⟩
  | 40 => ⟨S8x16384x26, .i32⟩
  | 41 => ⟨S8x16384x26, .i32⟩
  | 42 => ⟨S8x16384x26, .i32⟩
  | 43 => ⟨S8x16384x26, .i32⟩
  | 44 => ⟨S8x16384x26, .i32⟩
  | 45 => ⟨S8x16384x26, .i32⟩
  | 46 => ⟨S8x16384x26, .i32⟩
  | 47 => ⟨S8x16384x26, .i32⟩
  | 48 => ⟨S_, .i32⟩
  | 49 => ⟨S8x16384x26, .i32⟩
  | 50 => ⟨S8x16384x26, .i32⟩
  | 51 => ⟨S8x16384x26, .i32⟩
  | 52 => ⟨S_, .i32⟩
  | 53 => ⟨S8x16384x26, .i32⟩
  | 54 => ⟨S8x16384x26, .i32⟩
  | 55 => ⟨S_, .i32⟩
  | 56 => ⟨S8x16384x26, .i32⟩
  | 57 => ⟨S8x16384x26, .i32⟩
  | 58 => ⟨S8x16384x26, .i32⟩
  | 59 => ⟨S8x16384x26, .i32⟩
  | 60 => ⟨S8x16384x26, .i32⟩
  | 61 => ⟨S_, .i32⟩
  | 62 => ⟨S8x16384x26, .i32⟩
  | 63 => ⟨S8x16384x26, .i32⟩
  | 64 => ⟨S_, .i32⟩
  | 65 => ⟨S8x16384x26, .i32⟩
  | 66 => ⟨S8x16384x26, .i32⟩
  | 67 => ⟨S8x16384x26, .i32⟩
  | 68 => ⟨S8x16384x26, .i32⟩
  | 69 => ⟨S8x16384x26, .i32⟩
  | 70 => ⟨S_, .i32⟩
  | 71 => ⟨S8x16384x26, .i32⟩
  | 72 => ⟨S8x16384x26, .i32⟩
  | 73 => ⟨S_, .i32⟩
  | 74 => ⟨S8x16384x26, .i32⟩
  | 75 => ⟨S8x16384x26, .i32⟩
  | 76 => ⟨S8x16384x26, .i32⟩
  | 77 => ⟨S8x16384x26, .i32⟩
  | 78 => ⟨S8x16384x26, .i32⟩
  | 79 => ⟨S_, .i32⟩
  | 80 => ⟨S8x16384x26, .i32⟩
  | 81 => ⟨S8x16384x26, .i32⟩
  | 82 => ⟨S_, .i32⟩
  | 83 => ⟨S8x16384x26, .i32⟩
  | 84 => ⟨S8x16384x26, .i32⟩
  | 85 => ⟨S8x16384x26, .i32⟩
  | 86 => ⟨S8x16384x26, .i32⟩
  | 87 => ⟨S8x16384x26, .i32⟩
  | 88 => ⟨S8x16384x26, .i32⟩
  | 89 => ⟨S8x16384x26, .i32⟩
  | 90 => ⟨S8x16384x26, .i32⟩
  | 91 => ⟨S_, .i32⟩
  | 92 => ⟨S8x16384x26, .i32⟩
  | 93 => ⟨S8x16384x26, .i32⟩
  | 94 => ⟨S8x16384x26, .i32⟩
  | 95 => ⟨S_, .i32⟩
  | 96 => ⟨S8x16384x26, .i32⟩
  | 97 => ⟨S8x16384x26, .i32⟩
  | 98 => ⟨S_, .i32⟩
  | 99 => ⟨S8x16384x26, .i32⟩
  | 100 => ⟨S8x16384x26, .i32⟩
  | 101 => ⟨S8x16384x26, .i32⟩
  | 102 => ⟨S8x16384x26, .i32⟩
  | 103 => ⟨S8x16384x26, .i32⟩
  | 104 => ⟨S_, .i32⟩
  | 105 => ⟨S8x16384x26, .i32⟩
  | 106 => ⟨S8x16384x26, .i32⟩
  | 107 => ⟨S_, .i32⟩
  | 108 => ⟨S8x16384x26, .i32⟩
  | 109 => ⟨S8x16384x26, .i32⟩
  | 110 => ⟨S8x16384x26, .i32⟩
  | 111 => ⟨S8x16384x26, .i32⟩
  | 112 => ⟨S8x16384x26, .i32⟩
  | 113 => ⟨S_, .i32⟩
  | 114 => ⟨S8x16384x26, .i32⟩
  | 115 => ⟨S8x16384x26, .i32⟩
  | 116 => ⟨S_, .i32⟩
  | 117 => ⟨S8x16384x26, .i32⟩
  | 118 => ⟨S8x16384x26, .i32⟩
  | 119 => ⟨S8x16384x26, .i32⟩
  | 120 => ⟨S8x16384x26, .i32⟩
  | 121 => ⟨S8x16384x26, .i32⟩
  | 122 => ⟨S_, .i32⟩
  | 123 => ⟨S8x16384x26, .i32⟩
  | 124 => ⟨S8x16384x26, .i32⟩
  | 125 => ⟨S_, .i32⟩
  | 126 => ⟨S8x16384x26, .i32⟩
  | 127 => ⟨S8x16384x26, .i32⟩
  | _ => ⟨S8x16384x26, .i32⟩

abbrev hbmTy0_8 (i : Nat) : BufTy := match i % 128 with
  | 0 => ⟨S8x16384x26, .i32⟩
  | 1 => ⟨S8x16384x26, .i32⟩
  | 2 => ⟨S8x16384x26, .i32⟩
  | 3 => ⟨S8x16384x26, .i32⟩
  | 4 => ⟨S8x16384x26, .i32⟩
  | 5 => ⟨S8x16384x26, .i32⟩
  | 6 => ⟨S_, .i32⟩
  | 7 => ⟨S8x16384x26, .i32⟩
  | 8 => ⟨S8x16384x26, .i32⟩
  | 9 => ⟨S8x16384x26, .i32⟩
  | 10 => ⟨S1, .i32⟩
  | 11 => ⟨S_, .i32⟩
  | 12 => ⟨S1, .i32⟩
  | 13 => ⟨S_, .i32⟩
  | 14 => ⟨S8x16384x26, .i64⟩
  | 15 => ⟨S8x16384x26, .i64⟩
  | 16 => ⟨S8x16384x26, .i64⟩
  | 17 => ⟨S_, .i64⟩
  | 18 => ⟨S8x16384x26, .i64⟩
  | 19 => ⟨S8x16384x26, .i64⟩
  | 20 => ⟨S_, .i64⟩
  | 21 => ⟨S8x16384x26, .i64⟩
  | 22 => ⟨S8x16384x26, .i64⟩
  | 23 => ⟨S_, .i64⟩
  | 24 => ⟨S8x16384x26, .i64⟩
  | 25 => ⟨S8x16384x26, .i64⟩
  | 26 => ⟨S8x16384x26, .i64⟩
  | 27 => ⟨S8x16384x26, .i64⟩
  | 28 => ⟨S_, .i64⟩
  | 29 => ⟨S8x16384x26, .i64⟩
  | 30 => ⟨S8x16384x26, .i64⟩
  | 31 => ⟨S8x16384x26, .i32⟩
  | 32 => ⟨S8x16384x26, .i32⟩
  | 33 => ⟨S_, .i32⟩
  | 34 => ⟨S_, .i32⟩
  | 35 => ⟨S_, .i32⟩
  | 36 => ⟨S8x16384x26, .i32⟩
  | 37 => ⟨S8x16384x26, .i32⟩
  | 38 => ⟨S8x16384x26, .i32⟩
  | 39 => ⟨S8x16384x26, .i32⟩
  | 40 => ⟨S8x16384x26, .i32⟩
  | 41 => ⟨S_, .i32⟩
  | 42 => ⟨S8x16384x26, .i32⟩
  | 43 => ⟨S8x16384x26, .i32⟩
  | 44 => ⟨S_, .i32⟩
  | 45 => ⟨S8x16384x26, .i32⟩
  | 46 => ⟨S8x16384x26, .i32⟩
  | 47 => ⟨S8x16384x26, .i32⟩
  | 48 => ⟨S8x16384x26, .i32⟩
  | 49 => ⟨S8x16384x26, .i32⟩
  | 50 => ⟨S_, .i32⟩
  | 51 => ⟨S8x16384x26, .i32⟩
  | 52 => ⟨S8x16384x26, .i32⟩
  | 53 => ⟨S_, .i32⟩
  | 54 => ⟨S8x16384x26, .i32⟩
  | 55 => ⟨S8x16384x26, .i32⟩
  | 56 => ⟨S8x16384x26, .i32⟩
  | 57 => ⟨S8x16384x26, .i32⟩
  | 58 => ⟨S8x16384x26, .i32⟩
  | 59 => ⟨S_, .i32⟩
  | 60 => ⟨S8x16384x26, .i32⟩
  | 61 => ⟨S8x16384x26, .i32⟩
  | 62 => ⟨S_, .i32⟩
  | 63 => ⟨S8x16384x26, .i32⟩
  | 64 => ⟨S8x16384x26, .i32⟩
  | 65 => ⟨S8x16384x26, .i32⟩
  | 66 => ⟨S8x16384x26, .i32⟩
  | 67 => ⟨S8x16384x26, .i32⟩
  | 68 => ⟨S_, .i32⟩
  | 69 => ⟨S8x16384x26, .i32⟩
  | 70 => ⟨S8x16384x26, .i32⟩
  | 71 => ⟨S_, .i32⟩
  | 72 => ⟨S8x16384x26, .i32⟩
  | 73 => ⟨S8x16384x26, .i32⟩
  | 74 => ⟨S8x16384x26, .i32⟩
  | 75 => ⟨S8x16384x26, .i32⟩
  | 76 => ⟨S8x16384x26, .i32⟩
  | 77 => ⟨S8x16384x26, .i32⟩
  | 78 => ⟨S8x16384x26, .i32⟩
  | 79 => ⟨S8x16384x26, .i32⟩
  | 80 => ⟨S_, .i32⟩
  | 81 => ⟨S8x16384x26, .i32⟩
  | 82 => ⟨S8x16384x26, .i32⟩
  | 83 => ⟨S8x16384x26, .i32⟩
  | 84 => ⟨S_, .i32⟩
  | 85 => ⟨S8x16384x26, .i32⟩
  | 86 => ⟨S8x16384x26, .i32⟩
  | 87 => ⟨S_, .i32⟩
  | 88 => ⟨S8x16384x26, .i32⟩
  | 89 => ⟨S8x16384x26, .i32⟩
  | 90 => ⟨S8x16384x26, .i32⟩
  | 91 => ⟨S8x16384x26, .i32⟩
  | 92 => ⟨S8x16384x26, .i32⟩
  | 93 => ⟨S_, .i32⟩
  | 94 => ⟨S8x16384x26, .i32⟩
  | 95 => ⟨S8x16384x26, .i32⟩
  | 96 => ⟨S_, .i32⟩
  | 97 => ⟨S8x16384x26, .i32⟩
  | 98 => ⟨S8x16384x26, .i32⟩
  | 99 => ⟨S8x16384x26, .i32⟩
  | 100 => ⟨S8x16384x26, .i32⟩
  | 101 => ⟨S8x16384x26, .i32⟩
  | 102 => ⟨S_, .i32⟩
  | 103 => ⟨S8x16384x26, .i32⟩
  | 104 => ⟨S8x16384x26, .i32⟩
  | 105 => ⟨S_, .i32⟩
  | 106 => ⟨S8x16384x26, .i32⟩
  | 107 => ⟨S8x16384x26, .i32⟩
  | 108 => ⟨S8x16384x26, .i32⟩
  | 109 => ⟨S8x16384x26, .i32⟩
  | 110 => ⟨S8x16384x26, .i32⟩
  | 111 => ⟨S_, .i32⟩
  | 112 => ⟨S8x16384x26, .i32⟩
  | 113 => ⟨S8x16384x26, .i32⟩
  | 114 => ⟨S_, .i32⟩
  | 115 => ⟨S8x16384x26, .i32⟩
  | 116 => ⟨S8x16384x26, .i32⟩
  | 117 => ⟨S8x16384x26, .i32⟩
  | 118 => ⟨S8x16384x26, .i32⟩
  | 119 => ⟨S8x16384x26, .i32⟩
  | 120 => ⟨S8x16384x26, .i32⟩
  | 121 => ⟨S8x16384x26, .i32⟩
  | 122 => ⟨S8x16384x26, .i32⟩
  | 123 => ⟨S_, .i32⟩
  | 124 => ⟨S8x16384x26, .i32⟩
  | 125 => ⟨S8x16384x26, .i32⟩
  | 126 => ⟨S8x16384x26, .i32⟩
  | 127 => ⟨S_, .i32⟩
  | _ => ⟨S8x16384x26, .i32⟩

abbrev hbmTy0_9 (i : Nat) : BufTy := match i % 128 with
  | 0 => ⟨S8x16384x26, .i32⟩
  | 1 => ⟨S8x16384x26, .i32⟩
  | 2 => ⟨S_, .i32⟩
  | 3 => ⟨S8x16384x26, .i32⟩
  | 4 => ⟨S8x16384x26, .i32⟩
  | 5 => ⟨S8x16384x26, .i32⟩
  | 6 => ⟨S8x16384x26, .i32⟩
  | 7 => ⟨S8x16384x26, .i32⟩
  | 8 => ⟨S_, .i32⟩
  | 9 => ⟨S8x16384x26, .i32⟩
  | 10 => ⟨S8x16384x26, .i32⟩
  | 11 => ⟨S_, .i32⟩
  | 12 => ⟨S8x16384x26, .i32⟩
  | 13 => ⟨S8x16384x26, .i32⟩
  | 14 => ⟨S8x16384x26, .i32⟩
  | 15 => ⟨S8x16384x26, .i32⟩
  | 16 => ⟨S8x16384x26, .i32⟩
  | 17 => ⟨S_, .i32⟩
  | 18 => ⟨S8x16384x26, .i32⟩
  | 19 => ⟨S8x16384x26, .i32⟩
  | 20 => ⟨S_, .i32⟩
  | 21 => ⟨S8x16384x26, .i32⟩
  | 22 => ⟨S8x16384x26, .i32⟩
  | 23 => ⟨S8x16384x26, .i32⟩
  | 24 => ⟨S8x16384x26, .i32⟩
  | 25 => ⟨S8x16384x26, .i32⟩
  | 26 => ⟨S_, .i32⟩
  | 27 => ⟨S8x16384x26, .i32⟩
  | 28 => ⟨S8x16384x26, .i32⟩
  | 29 => ⟨S_, .i32⟩
  | 30 => ⟨S8x16384x26, .i32⟩
  | 31 => ⟨S8x16384x26, .i32⟩
  | 32 => ⟨S8x16384x26, .i32⟩
  | 33 => ⟨S8x16384x26, .i32⟩
  | 34 => ⟨S8x16384x26, .i32⟩
  | 35 => ⟨S8x16384x26, .i32⟩
  | 36 => ⟨S8x16384x26, .i32⟩
  | 37 => ⟨S8x16384x26, .i32⟩
  | 38 => ⟨S_, .i32⟩
  | 39 => ⟨S8x16384x26, .i32⟩
  | 40 => ⟨S8x16384x26, .i32⟩
  | 41 => ⟨S8x16384x26, .i32⟩
  | 42 => ⟨S_, .i32⟩
  | 43 => ⟨S8x16384x26, .i32⟩
  | 44 => ⟨S8x16384x26, .i32⟩
  | 45 => ⟨S_, .i32⟩
  | 46 => ⟨S8x16384x26, .i32⟩
  | 47 => ⟨S8x16384x26, .i32⟩
  | 48 => ⟨S8x16384x26, .i32⟩
  | 49 => ⟨S8x16384x26, .i32⟩
  | 50 => ⟨S8x16384x26, .i32⟩
  | 51 => ⟨S_, .i32⟩
  | 52 => ⟨S8x16384x26, .i32⟩
  | 53 => ⟨S8x16384x26, .i32⟩
  | 54 => ⟨S_, .i32⟩
  | 55 => ⟨S8x16384x26, .i32⟩
  | 56 => ⟨S8x16384x26, .i32⟩
  | 57 => ⟨S8x16384x26, .i32⟩
  | 58 => ⟨S8x16384x26, .i32⟩
  | 59 => ⟨S8x16384x26, .i32⟩
  | 60 => ⟨S_, .i32⟩
  | 61 => ⟨S8x16384x26, .i32⟩
  | 62 => ⟨S8x16384x26, .i32⟩
  | 63 => ⟨S_, .i32⟩
  | 64 => ⟨S8x16384x26, .i32⟩
  | 65 => ⟨S8x16384x26, .i32⟩
  | 66 => ⟨S8x16384x26, .i32⟩
  | 67 => ⟨S8x16384x26, .i32⟩
  | 68 => ⟨S8x16384x26, .i32⟩
  | 69 => ⟨S_, .i32⟩
  | 70 => ⟨S8x16384x26, .i32⟩
  | 71 => ⟨S8x16384x26, .i32⟩
  | 72 => ⟨S_, .i32⟩
  | 73 => ⟨S8x16384x26, .i32⟩
  | 74 => ⟨S8x16384x26, .i32⟩
  | 75 => ⟨S8x16384x26, .i32⟩
  | 76 => ⟨S8x16384x26, .i32⟩
  | 77 => ⟨S8x16384x26, .i32⟩
  | 78 => ⟨S8x16384x26, .i32⟩
  | 79 => ⟨S8x16384x26, .i32⟩
  | 80 => ⟨S8x16384x26, .i32⟩
  | 81 => ⟨S_, .i32⟩
  | 82 => ⟨S8x16384x26, .i32⟩
  | 83 => ⟨S8x16384x26, .i32⟩
  | 84 => ⟨S8x16384x26, .i32⟩
  | 85 => ⟨S_, .i32⟩
  | 86 => ⟨S8x16384x26, .i32⟩
  | 87 => ⟨S8x16384x26, .i32⟩
  | 88 => ⟨S_, .i32⟩
  | 89 => ⟨S8x16384x26, .i32⟩
  | 90 => ⟨S8x16384x26, .i32⟩
  | 91 => ⟨S8x16384x26, .i32⟩
  | 92 => ⟨S8x16384x26, .i32⟩
  | 93 => ⟨S8x16384x26, .i32⟩
  | 94 => ⟨S_, .i32⟩
  | 95 => ⟨S8x16384x26, .i32⟩
  | 96 => ⟨S8x16384x26, .i32⟩
  | 97 => ⟨S_, .i32⟩
  | 98 => ⟨S8x16384x26, .i32⟩
  | 99 => ⟨S8x16384x26, .i32⟩
  | 100 => ⟨S8x16384x26, .i32⟩
  | 101 => ⟨S8x16384x26, .i32⟩
  | 102 => ⟨S8x16384x26, .i32⟩
  | 103 => ⟨S_, .i32⟩
  | 104 => ⟨S8x16384x26, .i32⟩
  | 105 => ⟨S8x16384x26, .i32⟩
  | 106 => ⟨S_, .i32⟩
  | 107 => ⟨S8x16384x26, .i32⟩
  | 108 => ⟨S8x16384x26, .i32⟩
  | 109 => ⟨S8x16384x26, .i32⟩
  | 110 => ⟨S8x16384x26, .i32⟩
  | 111 => ⟨S8x16384x26, .i32⟩
  | 112 => ⟨S_, .i32⟩
  | 113 => ⟨S8x16384x26, .i32⟩
  | 114 => ⟨S8x16384x26, .i32⟩
  | 115 => ⟨S_, .i32⟩
  | 116 => ⟨S8x16384x26, .i32⟩
  | 117 => ⟨S8x16384x26, .i32⟩
  | 118 => ⟨S8x16384x26, .i32⟩
  | 119 => ⟨S8x16384x26, .i32⟩
  | 120 => ⟨S8x16384x26, .i32⟩
  | 121 => ⟨S8x16384x26, .i32⟩
  | 122 => ⟨S8x16384x26, .i32⟩
  | 123 => ⟨S8x16384x26, .i32⟩
  | 124 => ⟨S_, .i32⟩
  | 125 => ⟨S8x16384x26, .i32⟩
  | 126 => ⟨S8x16384x26, .i32⟩
  | 127 => ⟨S8x16384x26, .i32⟩
  | _ => ⟨S8x16384x26, .i32⟩

abbrev hbmTy0_10 (i : Nat) : BufTy := match i % 128 with
  | 0 => ⟨S1x1x1, .i32⟩
  | 1 => ⟨S1x1x1, .i32⟩
  | 2 => ⟨S1x1x1, .i1⟩
  | 3 => ⟨S_, .i32⟩
  | 4 => ⟨S1x1x1, .i32⟩
  | 5 => ⟨S1x1x1, .i32⟩
  | 6 => ⟨S1x1x1, .i1⟩
  | 7 => ⟨S1x1x1, .i1⟩
  | 8 => ⟨S1x1x1, .i1⟩
  | 9 => ⟨S_, .i32⟩
  | 10 => ⟨S1x1x1, .i32⟩
  | 11 => ⟨S1x1x1, .i32⟩
  | 12 => ⟨S1x1x1, .i32⟩
  | 13 => ⟨S_, .i32⟩
  | 14 => ⟨S1x1x1, .i32⟩
  | 15 => ⟨S1x1x1, .i32⟩
  | 16 => ⟨S1x1x1, .i32⟩
  | 17 => ⟨S1x1x1, .i32⟩
  | 18 => ⟨S8x16384x26, .i32⟩
  | 19 => ⟨S8x16384x26, .i32⟩
  | 20 => ⟨S8x16384x26, .i32⟩
  | 21 => ⟨S8x16384x26, .i32⟩
  | 22 => ⟨S8x16384x26, .i32⟩
  | 23 => ⟨S8x16384x26, .i32⟩
  | 24 => ⟨S8x16384x26, .i32⟩
  | 25 => ⟨S8x16384x26, .i32⟩
  | 26 => ⟨S8x16384x26, .i32⟩
  | 27 => ⟨S8x16384x26, .i32⟩
  | 28 => ⟨S8x16384x26, .i32⟩
  | 29 => ⟨S8x16384x26, .i32⟩
  | 30 => ⟨S8x16384x26, .i32⟩
  | 31 => ⟨S_, .i32⟩
  | 32 => ⟨S8x16384x26, .i32⟩
  | 33 => ⟨S8x16384x26, .i32⟩
  | 34 => ⟨S8x16384x26, .i32⟩
  | 35 => ⟨S8x16384x26, .i32⟩
  | 36 => ⟨S16x16384x26, .i32⟩
  | 37 => ⟨S_, .f32⟩
  | _ => ⟨S8x16384x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S8x16384x26, .i32⟩

abbrev bufTy : (tb : Table) → Fin (tcTables nBuf tb) → BufTy
  | .hbm, ⟨i, _⟩ => hbmTy i
  | _, _ => ⟨S8x16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_cst : Ref sig .tc := ⟨.hbm, 253, rfl⟩
abbrev main_call1_cst : Ref sig .tc := ⟨.hbm, 254, rfl⟩
abbrev main_call1_cst_0 : Ref sig .tc := ⟨.hbm, 255, rfl⟩
abbrev main_call1_call0_v0 : Ref sig .tc := ⟨.hbm, 256, rfl⟩
abbrev main_call1_call0_v1 : Ref sig .tc := ⟨.hbm, 257, rfl⟩
abbrev main_call1_call0_v2 : Ref sig .tc := ⟨.hbm, 258, rfl⟩
abbrev main_call1_call0_v3 : Ref sig .tc := ⟨.hbm, 259, rfl⟩
abbrev main_call1_call0_v4 : Ref sig .tc := ⟨.hbm, 260, rfl⟩
abbrev main_call1_call0_v5 : Ref sig .tc := ⟨.hbm, 261, rfl⟩
abbrev main_call1_call0_v6 : Ref sig .tc := ⟨.hbm, 262, rfl⟩
abbrev main_call1_call0_v7 : Ref sig .tc := ⟨.hbm, 263, rfl⟩
abbrev main_call1_call0_v8 : Ref sig .tc := ⟨.hbm, 264, rfl⟩
abbrev main_call1_call0_v9 : Ref sig .tc := ⟨.hbm, 265, rfl⟩
abbrev main_call1_call0_v10 : Ref sig .tc := ⟨.hbm, 266, rfl⟩
abbrev main_call1_call0_c : Ref sig .tc := ⟨.hbm, 267, rfl⟩
abbrev main_call1_call0_v11 : Ref sig .tc := ⟨.hbm, 268, rfl⟩
abbrev main_call1_call0_v12 : Ref sig .tc := ⟨.hbm, 269, rfl⟩
abbrev main_call1_call0_c_0 : Ref sig .tc := ⟨.hbm, 270, rfl⟩
abbrev main_call1_call0_v13 : Ref sig .tc := ⟨.hbm, 271, rfl⟩
abbrev main_call1_call0_v14 : Ref sig .tc := ⟨.hbm, 272, rfl⟩
abbrev main_call1_call0_c_1 : Ref sig .tc := ⟨.hbm, 273, rfl⟩
abbrev main_call1_call0_v15 : Ref sig .tc := ⟨.hbm, 274, rfl⟩
abbrev main_call1_call0_v16 : Ref sig .tc := ⟨.hbm, 275, rfl⟩
abbrev main_call1_call0_v17 : Ref sig .tc := ⟨.hbm, 276, rfl⟩
abbrev main_call1_call0_v18 : Ref sig .tc := ⟨.hbm, 277, rfl⟩
abbrev main_call1_call0_c_2 : Ref sig .tc := ⟨.hbm, 278, rfl⟩
abbrev main_call1_call0_v19 : Ref sig .tc := ⟨.hbm, 279, rfl⟩
abbrev main_call1_call0_v20 : Ref sig .tc := ⟨.hbm, 280, rfl⟩
abbrev main_call1_call0_v21 : Ref sig .tc := ⟨.hbm, 281, rfl⟩
abbrev main_call1_call0_v22 : Ref sig .tc := ⟨.hbm, 282, rfl⟩
abbrev main_call1_call0_call0_v0 : Ref sig .tc := ⟨.hbm, 283, rfl⟩
abbrev main_call1_call0_call0_c : Ref sig .tc := ⟨.hbm, 284, rfl⟩
abbrev main_call1_call0_call0_v1 : Ref sig .tc := ⟨.hbm, 285, rfl⟩
abbrev main_call1_call0_call0_v2 : Ref sig .tc := ⟨.hbm, 286, rfl⟩
abbrev main_call1_call0_call0_v3 : Ref sig .tc := ⟨.hbm, 287, rfl⟩
abbrev main_call1_call0_call0_v4 : Ref sig .tc := ⟨.hbm, 288, rfl⟩
abbrev main_call1_call0_call0_v5 : Ref sig .tc := ⟨.hbm, 289, rfl⟩
abbrev main_call1_call0_call0_v6 : Ref sig .tc := ⟨.hbm, 290, rfl⟩
abbrev main_call1_call0_call0_c_0 : Ref sig .tc := ⟨.hbm, 291, rfl⟩
abbrev main_call1_call0_call0_v7 : Ref sig .tc := ⟨.hbm, 292, rfl⟩
abbrev main_call1_call0_call0_v8 : Ref sig .tc := ⟨.hbm, 293, rfl⟩
abbrev main_call1_call0_call0_c_1 : Ref sig .tc := ⟨.hbm, 294, rfl⟩
abbrev main_call1_call0_call0_v9 : Ref sig .tc := ⟨.hbm, 295, rfl⟩
abbrev main_call1_call0_call0_v10 : Ref sig .tc := ⟨.hbm, 296, rfl⟩
abbrev main_call1_call0_call0_v11 : Ref sig .tc := ⟨.hbm, 297, rfl⟩
abbrev main_call1_call0_call0_v12 : Ref sig .tc := ⟨.hbm, 298, rfl⟩
abbrev main_call1_call0_call0_v13 : Ref sig .tc := ⟨.hbm, 299, rfl⟩
abbrev main_call1_call0_call0_c_2 : Ref sig .tc := ⟨.hbm, 300, rfl⟩
abbrev main_call1_call0_call0_v14 : Ref sig .tc := ⟨.hbm, 301, rfl⟩
abbrev main_call1_call0_call0_v15 : Ref sig .tc := ⟨.hbm, 302, rfl⟩
abbrev main_call1_call0_call0_c_3 : Ref sig .tc := ⟨.hbm, 303, rfl⟩
abbrev main_call1_call0_call0_v16 : Ref sig .tc := ⟨.hbm, 304, rfl⟩
abbrev main_call1_call0_call0_v17 : Ref sig .tc := ⟨.hbm, 305, rfl⟩
abbrev main_call1_call0_call0_v18 : Ref sig .tc := ⟨.hbm, 306, rfl⟩
abbrev main_call1_call0_call0_v19 : Ref sig .tc := ⟨.hbm, 307, rfl⟩
abbrev main_call1_call0_call0_v20 : Ref sig .tc := ⟨.hbm, 308, rfl⟩
abbrev main_call1_call0_call0_c_4 : Ref sig .tc := ⟨.hbm, 309, rfl⟩
abbrev main_call1_call0_call0_v21 : Ref sig .tc := ⟨.hbm, 310, rfl⟩
abbrev main_call1_call0_call0_v22 : Ref sig .tc := ⟨.hbm, 311, rfl⟩
abbrev main_call1_call0_call0_c_5 : Ref sig .tc := ⟨.hbm, 312, rfl⟩
abbrev main_call1_call0_call0_v23 : Ref sig .tc := ⟨.hbm, 313, rfl⟩
abbrev main_call1_call0_call0_v24 : Ref sig .tc := ⟨.hbm, 314, rfl⟩
abbrev main_call1_call0_call0_v25 : Ref sig .tc := ⟨.hbm, 315, rfl⟩
abbrev main_call1_call0_call0_v26 : Ref sig .tc := ⟨.hbm, 316, rfl⟩
abbrev main_call1_call0_call0_v27 : Ref sig .tc := ⟨.hbm, 317, rfl⟩
abbrev main_call1_call0_call0_c_6 : Ref sig .tc := ⟨.hbm, 318, rfl⟩
abbrev main_call1_call0_call0_v28 : Ref sig .tc := ⟨.hbm, 319, rfl⟩
abbrev main_call1_call0_call0_v29 : Ref sig .tc := ⟨.hbm, 320, rfl⟩
abbrev main_call1_call0_call0_c_7 : Ref sig .tc := ⟨.hbm, 321, rfl⟩
abbrev main_call1_call0_call0_v30 : Ref sig .tc := ⟨.hbm, 322, rfl⟩
abbrev main_call1_call0_call0_v31 : Ref sig .tc := ⟨.hbm, 323, rfl⟩
abbrev main_call1_call0_call0_v32 : Ref sig .tc := ⟨.hbm, 324, rfl⟩
abbrev main_call1_call0_call0_v33 : Ref sig .tc := ⟨.hbm, 325, rfl⟩
abbrev main_call1_call0_call0_v34 : Ref sig .tc := ⟨.hbm, 326, rfl⟩
abbrev main_call1_call0_call0_v35 : Ref sig .tc := ⟨.hbm, 327, rfl⟩
abbrev main_call1_call0_call0_v36 : Ref sig .tc := ⟨.hbm, 328, rfl⟩
abbrev main_call1_call0_call0_v37 : Ref sig .tc := ⟨.hbm, 329, rfl⟩
abbrev main_call1_call0_call0_c_8 : Ref sig .tc := ⟨.hbm, 330, rfl⟩
abbrev main_call1_call0_call0_v38 : Ref sig .tc := ⟨.hbm, 331, rfl⟩
abbrev main_call1_call0_call0_v39 : Ref sig .tc := ⟨.hbm, 332, rfl⟩
abbrev main_call1_call0_call0_v40 : Ref sig .tc := ⟨.hbm, 333, rfl⟩
abbrev main_call1_call0_call0_c_9 : Ref sig .tc := ⟨.hbm, 334, rfl⟩
abbrev main_call1_call0_call0_v41 : Ref sig .tc := ⟨.hbm, 335, rfl⟩
abbrev main_call1_call0_call0_v42 : Ref sig .tc := ⟨.hbm, 336, rfl⟩
abbrev main_call1_call0_call0_c_10 : Ref sig .tc := ⟨.hbm, 337, rfl⟩
abbrev main_call1_call0_call0_v43 : Ref sig .tc := ⟨.hbm, 338, rfl⟩
abbrev main_call1_call0_call0_v44 : Ref sig .tc := ⟨.hbm, 339, rfl⟩
abbrev main_call1_call0_call0_v45 : Ref sig .tc := ⟨.hbm, 340, rfl⟩
abbrev main_call1_call0_call0_v46 : Ref sig .tc := ⟨.hbm, 341, rfl⟩
abbrev main_call1_call0_call0_v47 : Ref sig .tc := ⟨.hbm, 342, rfl⟩
abbrev main_call1_call0_call0_c_11 : Ref sig .tc := ⟨.hbm, 343, rfl⟩
abbrev main_call1_call0_call0_v48 : Ref sig .tc := ⟨.hbm, 344, rfl⟩
abbrev main_call1_call0_call0_v49 : Ref sig .tc := ⟨.hbm, 345, rfl⟩
abbrev main_call1_call0_call0_c_12 : Ref sig .tc := ⟨.hbm, 346, rfl⟩
abbrev main_call1_call0_call0_v50 : Ref sig .tc := ⟨.hbm, 347, rfl⟩
abbrev main_call1_call0_call0_v51 : Ref sig .tc := ⟨.hbm, 348, rfl⟩
abbrev main_call1_call0_call0_v52 : Ref sig .tc := ⟨.hbm, 349, rfl⟩
abbrev main_call1_call0_call0_v53 : Ref sig .tc := ⟨.hbm, 350, rfl⟩
abbrev main_call1_call0_call0_v54 : Ref sig .tc := ⟨.hbm, 351, rfl⟩
abbrev main_call1_call0_call0_c_13 : Ref sig .tc := ⟨.hbm, 352, rfl⟩
abbrev main_call1_call0_call0_v55 : Ref sig .tc := ⟨.hbm, 353, rfl⟩
abbrev main_call1_call0_call0_v56 : Ref sig .tc := ⟨.hbm, 354, rfl⟩
abbrev main_call1_call0_call0_c_14 : Ref sig .tc := ⟨.hbm, 355, rfl⟩
abbrev main_call1_call0_call0_v57 : Ref sig .tc := ⟨.hbm, 356, rfl⟩
abbrev main_call1_call0_call0_v58 : Ref sig .tc := ⟨.hbm, 357, rfl⟩
abbrev main_call1_call0_call0_v59 : Ref sig .tc := ⟨.hbm, 358, rfl⟩
abbrev main_call1_call0_call0_v60 : Ref sig .tc := ⟨.hbm, 359, rfl⟩
abbrev main_call1_call0_call0_v61 : Ref sig .tc := ⟨.hbm, 360, rfl⟩
abbrev main_call1_call0_call0_c_15 : Ref sig .tc := ⟨.hbm, 361, rfl⟩
abbrev main_call1_call0_call0_v62 : Ref sig .tc := ⟨.hbm, 362, rfl⟩
abbrev main_call1_call0_call0_v63 : Ref sig .tc := ⟨.hbm, 363, rfl⟩
abbrev main_call1_call0_call0_c_16 : Ref sig .tc := ⟨.hbm, 364, rfl⟩
abbrev main_call1_call0_call0_v64 : Ref sig .tc := ⟨.hbm, 365, rfl⟩
abbrev main_call1_call0_call0_v65 : Ref sig .tc := ⟨.hbm, 366, rfl⟩
abbrev main_call1_call0_call0_v66 : Ref sig .tc := ⟨.hbm, 367, rfl⟩
abbrev main_call1_call0_call0_v67 : Ref sig .tc := ⟨.hbm, 368, rfl⟩
abbrev main_call1_call0_call0_v68 : Ref sig .tc := ⟨.hbm, 369, rfl⟩
abbrev main_call1_call0_call0_v69 : Ref sig .tc := ⟨.hbm, 370, rfl⟩
abbrev main_call1_call0_call0_v70 : Ref sig .tc := ⟨.hbm, 371, rfl⟩
abbrev main_call1_call0_call0_v71 : Ref sig .tc := ⟨.hbm, 372, rfl⟩
abbrev main_call1_call0_call0_c_17 : Ref sig .tc := ⟨.hbm, 373, rfl⟩
abbrev main_call1_call0_call0_v72 : Ref sig .tc := ⟨.hbm, 374, rfl⟩
abbrev main_call1_call0_call0_v73 : Ref sig .tc := ⟨.hbm, 375, rfl⟩
abbrev main_call1_call0_call0_v74 : Ref sig .tc := ⟨.hbm, 376, rfl⟩
abbrev main_call1_call0_call0_c_18 : Ref sig .tc := ⟨.hbm, 377, rfl⟩
abbrev main_call1_call0_call0_v75 : Ref sig .tc := ⟨.hbm, 378, rfl⟩
abbrev main_call1_call0_call0_v76 : Ref sig .tc := ⟨.hbm, 379, rfl⟩
abbrev main_call1_call0_call0_c_19 : Ref sig .tc := ⟨.hbm, 380, rfl⟩
abbrev main_call1_call0_call0_v77 : Ref sig .tc := ⟨.hbm, 381, rfl⟩
abbrev main_call1_call0_call0_v78 : Ref sig .tc := ⟨.hbm, 382, rfl⟩
abbrev main_call1_call0_call0_v79 : Ref sig .tc := ⟨.hbm, 383, rfl⟩
abbrev main_call1_call0_call0_v80 : Ref sig .tc := ⟨.hbm, 384, rfl⟩
abbrev main_call1_call0_call0_v81 : Ref sig .tc := ⟨.hbm, 385, rfl⟩
abbrev main_call1_call0_call0_c_20 : Ref sig .tc := ⟨.hbm, 386, rfl⟩
abbrev main_call1_call0_call0_v82 : Ref sig .tc := ⟨.hbm, 387, rfl⟩
abbrev main_call1_call0_call0_v83 : Ref sig .tc := ⟨.hbm, 388, rfl⟩
abbrev main_call1_call0_call0_c_21 : Ref sig .tc := ⟨.hbm, 389, rfl⟩
abbrev main_call1_call0_call0_v84 : Ref sig .tc := ⟨.hbm, 390, rfl⟩
abbrev main_call1_call0_call0_v85 : Ref sig .tc := ⟨.hbm, 391, rfl⟩
abbrev main_call1_call0_call0_v86 : Ref sig .tc := ⟨.hbm, 392, rfl⟩
abbrev main_call1_call0_call0_v87 : Ref sig .tc := ⟨.hbm, 393, rfl⟩
abbrev main_call1_call0_call0_v88 : Ref sig .tc := ⟨.hbm, 394, rfl⟩
abbrev main_call1_call0_call0_c_22 : Ref sig .tc := ⟨.hbm, 395, rfl⟩
abbrev main_call1_call0_call0_v89 : Ref sig .tc := ⟨.hbm, 396, rfl⟩
abbrev main_call1_call0_call0_v90 : Ref sig .tc := ⟨.hbm, 397, rfl⟩
abbrev main_call1_call0_call0_c_23 : Ref sig .tc := ⟨.hbm, 398, rfl⟩
abbrev main_call1_call0_call0_v91 : Ref sig .tc := ⟨.hbm, 399, rfl⟩
abbrev main_call1_call0_call0_v92 : Ref sig .tc := ⟨.hbm, 400, rfl⟩
abbrev main_call1_call0_call0_v93 : Ref sig .tc := ⟨.hbm, 401, rfl⟩
abbrev main_call1_call0_call0_v94 : Ref sig .tc := ⟨.hbm, 402, rfl⟩
abbrev main_call1_call0_call0_v95 : Ref sig .tc := ⟨.hbm, 403, rfl⟩
abbrev main_call1_call0_call0_c_24 : Ref sig .tc := ⟨.hbm, 404, rfl⟩
abbrev main_call1_call0_call0_v96 : Ref sig .tc := ⟨.hbm, 405, rfl⟩
abbrev main_call1_call0_call0_v97 : Ref sig .tc := ⟨.hbm, 406, rfl⟩
abbrev main_call1_call0_call0_c_25 : Ref sig .tc := ⟨.hbm, 407, rfl⟩
abbrev main_call1_call0_call0_v98 : Ref sig .tc := ⟨.hbm, 408, rfl⟩
abbrev main_call1_call0_call0_v99 : Ref sig .tc := ⟨.hbm, 409, rfl⟩
abbrev main_call1_call0_call0_v100 : Ref sig .tc := ⟨.hbm, 410, rfl⟩
abbrev main_call1_call0_call0_v101 : Ref sig .tc := ⟨.hbm, 411, rfl⟩
abbrev main_call1_call0_call0_v102 : Ref sig .tc := ⟨.hbm, 412, rfl⟩
abbrev main_call1_call0_call0_v103 : Ref sig .tc := ⟨.hbm, 413, rfl⟩
abbrev main_call1_call0_call0_v104 : Ref sig .tc := ⟨.hbm, 414, rfl⟩
abbrev main_call1_call0_call0_v105 : Ref sig .tc := ⟨.hbm, 415, rfl⟩
abbrev main_call1_call0_call0_c_26 : Ref sig .tc := ⟨.hbm, 416, rfl⟩
abbrev main_call1_call0_call0_v106 : Ref sig .tc := ⟨.hbm, 417, rfl⟩
abbrev main_call1_call0_call0_v107 : Ref sig .tc := ⟨.hbm, 418, rfl⟩
abbrev main_call1_call0_call0_v108 : Ref sig .tc := ⟨.hbm, 419, rfl⟩
abbrev main_call1_call0_call0_c_27 : Ref sig .tc := ⟨.hbm, 420, rfl⟩
abbrev main_call1_call0_call0_v109 : Ref sig .tc := ⟨.hbm, 421, rfl⟩
abbrev main_call1_call0_call0_v110 : Ref sig .tc := ⟨.hbm, 422, rfl⟩
abbrev main_call1_call0_call0_c_28 : Ref sig .tc := ⟨.hbm, 423, rfl⟩
abbrev main_call1_call0_call0_v111 : Ref sig .tc := ⟨.hbm, 424, rfl⟩
abbrev main_call1_call0_call0_v112 : Ref sig .tc := ⟨.hbm, 425, rfl⟩
abbrev main_call1_call0_call0_v113 : Ref sig .tc := ⟨.hbm, 426, rfl⟩
abbrev main_call1_call0_call0_v114 : Ref sig .tc := ⟨.hbm, 427, rfl⟩
abbrev main_call1_call0_call0_v115 : Ref sig .tc := ⟨.hbm, 428, rfl⟩
abbrev main_call1_call0_call0_c_29 : Ref sig .tc := ⟨.hbm, 429, rfl⟩
abbrev main_call1_call0_call0_v116 : Ref sig .tc := ⟨.hbm, 430, rfl⟩
abbrev main_call1_call0_call0_v117 : Ref sig .tc := ⟨.hbm, 431, rfl⟩
abbrev main_call1_call0_call0_c_30 : Ref sig .tc := ⟨.hbm, 432, rfl⟩
abbrev main_call1_call0_call0_v118 : Ref sig .tc := ⟨.hbm, 433, rfl⟩
abbrev main_call1_call0_call0_v119 : Ref sig .tc := ⟨.hbm, 434, rfl⟩
abbrev main_call1_call0_call0_v120 : Ref sig .tc := ⟨.hbm, 435, rfl⟩
abbrev main_call1_call0_call0_v121 : Ref sig .tc := ⟨.hbm, 436, rfl⟩
abbrev main_call1_call0_call0_v122 : Ref sig .tc := ⟨.hbm, 437, rfl⟩
abbrev main_call1_call0_call0_c_31 : Ref sig .tc := ⟨.hbm, 438, rfl⟩
abbrev main_call1_call0_call0_v123 : Ref sig .tc := ⟨.hbm, 439, rfl⟩
abbrev main_call1_call0_call0_v124 : Ref sig .tc := ⟨.hbm, 440, rfl⟩
abbrev main_call1_call0_call0_c_32 : Ref sig .tc := ⟨.hbm, 441, rfl⟩
abbrev main_call1_call0_call0_v125 : Ref sig .tc := ⟨.hbm, 442, rfl⟩
abbrev main_call1_call0_call0_v126 : Ref sig .tc := ⟨.hbm, 443, rfl⟩
abbrev main_call1_call0_call0_v127 : Ref sig .tc := ⟨.hbm, 444, rfl⟩
abbrev main_call1_call0_call0_v128 : Ref sig .tc := ⟨.hbm, 445, rfl⟩
abbrev main_call1_call0_call0_v129 : Ref sig .tc := ⟨.hbm, 446, rfl⟩
abbrev main_call1_call0_call0_c_33 : Ref sig .tc := ⟨.hbm, 447, rfl⟩
abbrev main_call1_call0_call0_v130 : Ref sig .tc := ⟨.hbm, 448, rfl⟩
abbrev main_call1_call0_call0_v131 : Ref sig .tc := ⟨.hbm, 449, rfl⟩
abbrev main_call1_call0_call0_c_34 : Ref sig .tc := ⟨.hbm, 450, rfl⟩
abbrev main_call1_call0_call0_v132 : Ref sig .tc := ⟨.hbm, 451, rfl⟩
abbrev main_call1_call0_call0_v133 : Ref sig .tc := ⟨.hbm, 452, rfl⟩
abbrev main_call1_call0_call0_v134 : Ref sig .tc := ⟨.hbm, 453, rfl⟩
abbrev main_call1_call0_call0_v135 : Ref sig .tc := ⟨.hbm, 454, rfl⟩
abbrev main_call1_call0_call0_v136 : Ref sig .tc := ⟨.hbm, 455, rfl⟩
abbrev main_call1_call0_call0_v137 : Ref sig .tc := ⟨.hbm, 456, rfl⟩
abbrev main_call1_call0_call0_v138 : Ref sig .tc := ⟨.hbm, 457, rfl⟩
abbrev main_call1_call0_call0_v139 : Ref sig .tc := ⟨.hbm, 458, rfl⟩
abbrev main_call1_call0_call0_c_35 : Ref sig .tc := ⟨.hbm, 459, rfl⟩
abbrev main_call1_call0_call0_v140 : Ref sig .tc := ⟨.hbm, 460, rfl⟩
abbrev main_call1_call0_call0_v141 : Ref sig .tc := ⟨.hbm, 461, rfl⟩
abbrev main_call1_call0_call0_v142 : Ref sig .tc := ⟨.hbm, 462, rfl⟩
abbrev main_call1_call0_call0_c_36 : Ref sig .tc := ⟨.hbm, 463, rfl⟩
abbrev main_call1_call0_call0_v143 : Ref sig .tc := ⟨.hbm, 464, rfl⟩
abbrev main_call1_call0_call0_v144 : Ref sig .tc := ⟨.hbm, 465, rfl⟩
abbrev main_call1_call0_call0_c_37 : Ref sig .tc := ⟨.hbm, 466, rfl⟩
abbrev main_call1_call0_call0_v145 : Ref sig .tc := ⟨.hbm, 467, rfl⟩
abbrev main_call1_call0_call0_v146 : Ref sig .tc := ⟨.hbm, 468, rfl⟩
abbrev main_call1_call0_call0_v147 : Ref sig .tc := ⟨.hbm, 469, rfl⟩
abbrev main_call1_call0_call0_v148 : Ref sig .tc := ⟨.hbm, 470, rfl⟩
abbrev main_call1_call0_call0_v149 : Ref sig .tc := ⟨.hbm, 471, rfl⟩
abbrev main_call1_call0_call0_c_38 : Ref sig .tc := ⟨.hbm, 472, rfl⟩
abbrev main_call1_call0_call0_v150 : Ref sig .tc := ⟨.hbm, 473, rfl⟩
abbrev main_call1_call0_call0_v151 : Ref sig .tc := ⟨.hbm, 474, rfl⟩
abbrev main_call1_call0_call0_c_39 : Ref sig .tc := ⟨.hbm, 475, rfl⟩
abbrev main_call1_call0_call0_v152 : Ref sig .tc := ⟨.hbm, 476, rfl⟩
abbrev main_call1_call0_call0_v153 : Ref sig .tc := ⟨.hbm, 477, rfl⟩
abbrev main_call1_call0_call0_v154 : Ref sig .tc := ⟨.hbm, 478, rfl⟩
abbrev main_call1_call0_call0_v155 : Ref sig .tc := ⟨.hbm, 479, rfl⟩
abbrev main_call1_call0_call0_v156 : Ref sig .tc := ⟨.hbm, 480, rfl⟩
abbrev main_call1_call0_call0_c_40 : Ref sig .tc := ⟨.hbm, 481, rfl⟩
abbrev main_call1_call0_call0_v157 : Ref sig .tc := ⟨.hbm, 482, rfl⟩
abbrev main_call1_call0_call0_v158 : Ref sig .tc := ⟨.hbm, 483, rfl⟩
abbrev main_call1_call0_call0_c_41 : Ref sig .tc := ⟨.hbm, 484, rfl⟩
abbrev main_call1_call0_call0_v159 : Ref sig .tc := ⟨.hbm, 485, rfl⟩
abbrev main_call1_call0_call0_v160 : Ref sig .tc := ⟨.hbm, 486, rfl⟩
abbrev main_call1_call0_call0_v161 : Ref sig .tc := ⟨.hbm, 487, rfl⟩
abbrev main_call1_call0_call0_v162 : Ref sig .tc := ⟨.hbm, 488, rfl⟩
abbrev main_call1_call0_call0_v163 : Ref sig .tc := ⟨.hbm, 489, rfl⟩
abbrev main_call1_call0_call0_c_42 : Ref sig .tc := ⟨.hbm, 490, rfl⟩
abbrev main_call1_call0_call0_v164 : Ref sig .tc := ⟨.hbm, 491, rfl⟩
abbrev main_call1_call0_call0_v165 : Ref sig .tc := ⟨.hbm, 492, rfl⟩
abbrev main_call1_call0_call0_c_43 : Ref sig .tc := ⟨.hbm, 493, rfl⟩
abbrev main_call1_call0_call0_v166 : Ref sig .tc := ⟨.hbm, 494, rfl⟩
abbrev main_call1_call0_call0_v167 : Ref sig .tc := ⟨.hbm, 495, rfl⟩
abbrev main_call1_call0_call0_v168 : Ref sig .tc := ⟨.hbm, 496, rfl⟩
abbrev main_call1_call0_call0_v169 : Ref sig .tc := ⟨.hbm, 497, rfl⟩
abbrev main_call1_call0_call0_v170 : Ref sig .tc := ⟨.hbm, 498, rfl⟩
abbrev main_call1_call0_v23_0 : Ref sig .tc := ⟨.hbm, 499, rfl⟩
abbrev main_call1_call0_call0_v172 : Ref sig .tc := ⟨.hbm, 500, rfl⟩
abbrev main_call1_call0_call0_v173 : Ref sig .tc := ⟨.hbm, 501, rfl⟩
abbrev main_call1_call0_call0_c_44 : Ref sig .tc := ⟨.hbm, 502, rfl⟩
abbrev main_call1_call0_call0_v174 : Ref sig .tc := ⟨.hbm, 503, rfl⟩
abbrev main_call1_call0_v23_1 : Ref sig .tc := ⟨.hbm, 504, rfl⟩
abbrev main_call1_call0_v24 : Ref sig .tc := ⟨.hbm, 505, rfl⟩
abbrev main_call1_call0_c_3 : Ref sig .tc := ⟨.hbm, 506, rfl⟩
abbrev main_call1_call0_v25 : Ref sig .tc := ⟨.hbm, 507, rfl⟩
abbrev main_call1_call0_v26 : Ref sig .tc := ⟨.hbm, 508, rfl⟩
abbrev main_call1_call0_c_4 : Ref sig .tc := ⟨.hbm, 509, rfl⟩
abbrev main_call1_call0_v27 : Ref sig .tc := ⟨.hbm, 510, rfl⟩
abbrev main_call1_call0_v28 : Ref sig .tc := ⟨.hbm, 511, rfl⟩
abbrev main_call1_call0_v29 : Ref sig .tc := ⟨.hbm, 512, rfl⟩
abbrev main_call1_call0_cst : Ref sig .tc := ⟨.hbm, 513, rfl⟩
abbrev main_call1_call0_v30 : Ref sig .tc := ⟨.hbm, 514, rfl⟩
abbrev main_call1_call0_v31 : Ref sig .tc := ⟨.hbm, 515, rfl⟩
abbrev main_call1_call0_v32 : Ref sig .tc := ⟨.hbm, 516, rfl⟩
abbrev main_call1_call0_v33 : Ref sig .tc := ⟨.hbm, 517, rfl⟩
abbrev main_call1_call0_v34 : Ref sig .tc := ⟨.hbm, 518, rfl⟩
abbrev main_call1_call0_v35 : Ref sig .tc := ⟨.hbm, 519, rfl⟩
abbrev main_call1_call0_v36 : Ref sig .tc := ⟨.hbm, 520, rfl⟩
abbrev main_call1_call0_v37 : Ref sig .tc := ⟨.hbm, 521, rfl⟩
abbrev main_call1_v0 : Ref sig .tc := ⟨.hbm, 522, rfl⟩
abbrev main_call1_v1 : Ref sig .tc := ⟨.hbm, 523, rfl⟩
abbrev main_v12 : Ref sig .tc := ⟨.hbm, 524, rfl⟩
abbrev main_v13 : Ref sig .tc := ⟨.hbm, 525, rfl⟩
abbrev main_c_2 : Ref sig .tc := ⟨.hbm, 526, rfl⟩
abbrev main_c_3 : Ref sig .tc := ⟨.hbm, 527, rfl⟩
abbrev main_call2_c : Ref sig .tc := ⟨.hbm, 528, rfl⟩
abbrev main_call2_c_0 : Ref sig .tc := ⟨.hbm, 529, rfl⟩
abbrev main_call2_c_1 : Ref sig .tc := ⟨.hbm, 530, rfl⟩
abbrev main_call2_call0_v0 : Ref sig .tc := ⟨.hbm, 531, rfl⟩
abbrev main_call2_v0 : Ref sig .tc := ⟨.hbm, 532, rfl⟩
abbrev main_call2_v1 : Ref sig .tc := ⟨.hbm, 533, rfl⟩
abbrev main_call2_c_2 : Ref sig .tc := ⟨.hbm, 534, rfl⟩
abbrev main_call2_c_3 : Ref sig .tc := ⟨.hbm, 535, rfl⟩
abbrev main_call2_call1_v0 : Ref sig .tc := ⟨.hbm, 536, rfl⟩
abbrev main_call2_v2 : Ref sig .tc := ⟨.hbm, 537, rfl⟩
abbrev main_call2_v3 : Ref sig .tc := ⟨.hbm, 538, rfl⟩
abbrev main_call2_c_4 : Ref sig .tc := ⟨.hbm, 539, rfl⟩
abbrev main_call2_c_5 : Ref sig .tc := ⟨.hbm, 540, rfl⟩
abbrev main_call2_call2_v0 : Ref sig .tc := ⟨.hbm, 541, rfl⟩
abbrev main_call2_v4 : Ref sig .tc := ⟨.hbm, 542, rfl⟩
abbrev main_call2_v5 : Ref sig .tc := ⟨.hbm, 543, rfl⟩
abbrev main_call2_v6 : Ref sig .tc := ⟨.hbm, 544, rfl⟩
abbrev main_call2_v7 : Ref sig .tc := ⟨.hbm, 545, rfl⟩
abbrev main_call2_call3_v0 : Ref sig .tc := ⟨.hbm, 546, rfl⟩
abbrev main_call2_call3_v1 : Ref sig .tc := ⟨.hbm, 547, rfl⟩
abbrev main_call2_call3_v2 : Ref sig .tc := ⟨.hbm, 548, rfl⟩
abbrev main_call2_call3_v3 : Ref sig .tc := ⟨.hbm, 549, rfl⟩
abbrev main_call2_call3_v4 : Ref sig .tc := ⟨.hbm, 550, rfl⟩
abbrev main_call2_call3_c : Ref sig .tc := ⟨.hbm, 551, rfl⟩
abbrev main_call2_call3_v5 : Ref sig .tc := ⟨.hbm, 552, rfl⟩
abbrev main_call2_call3_v6 : Ref sig .tc := ⟨.hbm, 553, rfl⟩
abbrev main_call2_call3_c_0 : Ref sig .tc := ⟨.hbm, 554, rfl⟩
abbrev main_call2_call3_v7 : Ref sig .tc := ⟨.hbm, 555, rfl⟩
abbrev main_call2_call3_v8 : Ref sig .tc := ⟨.hbm, 556, rfl⟩
abbrev main_call2_call3_v9 : Ref sig .tc := ⟨.hbm, 557, rfl⟩
abbrev main_call2_call3_v10 : Ref sig .tc := ⟨.hbm, 558, rfl⟩
abbrev main_call2_call3_call0_v0 : Ref sig .tc := ⟨.hbm, 559, rfl⟩
abbrev main_call2_call3_call0_c : Ref sig .tc := ⟨.hbm, 560, rfl⟩
abbrev main_call2_call3_call0_v1 : Ref sig .tc := ⟨.hbm, 561, rfl⟩
abbrev main_call2_call3_call0_v2 : Ref sig .tc := ⟨.hbm, 562, rfl⟩
abbrev main_call2_call3_call0_v3 : Ref sig .tc := ⟨.hbm, 563, rfl⟩
abbrev main_call2_call3_call0_v4 : Ref sig .tc := ⟨.hbm, 564, rfl⟩
abbrev main_call2_call3_call0_v5 : Ref sig .tc := ⟨.hbm, 565, rfl⟩
abbrev main_call2_call3_call0_v6 : Ref sig .tc := ⟨.hbm, 566, rfl⟩
abbrev main_call2_call3_call0_c_0 : Ref sig .tc := ⟨.hbm, 567, rfl⟩
abbrev main_call2_call3_call0_v7 : Ref sig .tc := ⟨.hbm, 568, rfl⟩
abbrev main_call2_call3_call0_v8 : Ref sig .tc := ⟨.hbm, 569, rfl⟩
abbrev main_call2_call3_call0_c_1 : Ref sig .tc := ⟨.hbm, 570, rfl⟩
abbrev main_call2_call3_call0_v9 : Ref sig .tc := ⟨.hbm, 571, rfl⟩
abbrev main_call2_call3_call0_v10 : Ref sig .tc := ⟨.hbm, 572, rfl⟩
abbrev main_call2_call3_call0_v11 : Ref sig .tc := ⟨.hbm, 573, rfl⟩
abbrev main_call2_call3_call0_v12 : Ref sig .tc := ⟨.hbm, 574, rfl⟩
abbrev main_call2_call3_call0_v13 : Ref sig .tc := ⟨.hbm, 575, rfl⟩
abbrev main_call2_call3_call0_c_2 : Ref sig .tc := ⟨.hbm, 576, rfl⟩
abbrev main_call2_call3_call0_v14 : Ref sig .tc := ⟨.hbm, 577, rfl⟩
abbrev main_call2_call3_call0_v15 : Ref sig .tc := ⟨.hbm, 578, rfl⟩
abbrev main_call2_call3_call0_c_3 : Ref sig .tc := ⟨.hbm, 579, rfl⟩
abbrev main_call2_call3_call0_v16 : Ref sig .tc := ⟨.hbm, 580, rfl⟩
abbrev main_call2_call3_call0_v17 : Ref sig .tc := ⟨.hbm, 581, rfl⟩
abbrev main_call2_call3_call0_v18 : Ref sig .tc := ⟨.hbm, 582, rfl⟩
abbrev main_call2_call3_call0_v19 : Ref sig .tc := ⟨.hbm, 583, rfl⟩
abbrev main_call2_call3_call0_v20 : Ref sig .tc := ⟨.hbm, 584, rfl⟩
abbrev main_call2_call3_call0_c_4 : Ref sig .tc := ⟨.hbm, 585, rfl⟩
abbrev main_call2_call3_call0_v21 : Ref sig .tc := ⟨.hbm, 586, rfl⟩
abbrev main_call2_call3_call0_v22 : Ref sig .tc := ⟨.hbm, 587, rfl⟩
abbrev main_call2_call3_call0_c_5 : Ref sig .tc := ⟨.hbm, 588, rfl⟩
abbrev main_call2_call3_call0_v23 : Ref sig .tc := ⟨.hbm, 589, rfl⟩
abbrev main_call2_call3_call0_v24 : Ref sig .tc := ⟨.hbm, 590, rfl⟩
abbrev main_call2_call3_call0_v25 : Ref sig .tc := ⟨.hbm, 591, rfl⟩
abbrev main_call2_call3_call0_v26 : Ref sig .tc := ⟨.hbm, 592, rfl⟩
abbrev main_call2_call3_call0_v27 : Ref sig .tc := ⟨.hbm, 593, rfl⟩
abbrev main_call2_call3_call0_c_6 : Ref sig .tc := ⟨.hbm, 594, rfl⟩
abbrev main_call2_call3_call0_v28 : Ref sig .tc := ⟨.hbm, 595, rfl⟩
abbrev main_call2_call3_call0_v29 : Ref sig .tc := ⟨.hbm, 596, rfl⟩
abbrev main_call2_call3_call0_c_7 : Ref sig .tc := ⟨.hbm, 597, rfl⟩
abbrev main_call2_call3_call0_v30 : Ref sig .tc := ⟨.hbm, 598, rfl⟩
abbrev main_call2_call3_call0_v31 : Ref sig .tc := ⟨.hbm, 599, rfl⟩
abbrev main_call2_call3_call0_v32 : Ref sig .tc := ⟨.hbm, 600, rfl⟩
abbrev main_call2_call3_call0_v33 : Ref sig .tc := ⟨.hbm, 601, rfl⟩
abbrev main_call2_call3_call0_v34 : Ref sig .tc := ⟨.hbm, 602, rfl⟩
abbrev main_call2_call3_call0_v35 : Ref sig .tc := ⟨.hbm, 603, rfl⟩
abbrev main_call2_call3_call0_v36 : Ref sig .tc := ⟨.hbm, 604, rfl⟩
abbrev main_call2_call3_call0_v37 : Ref sig .tc := ⟨.hbm, 605, rfl⟩
abbrev main_call2_call3_call0_c_8 : Ref sig .tc := ⟨.hbm, 606, rfl⟩
abbrev main_call2_call3_call0_v38 : Ref sig .tc := ⟨.hbm, 607, rfl⟩
abbrev main_call2_call3_call0_v39 : Ref sig .tc := ⟨.hbm, 608, rfl⟩
abbrev main_call2_call3_call0_v40 : Ref sig .tc := ⟨.hbm, 609, rfl⟩
abbrev main_call2_call3_call0_c_9 : Ref sig .tc := ⟨.hbm, 610, rfl⟩
abbrev main_call2_call3_call0_v41 : Ref sig .tc := ⟨.hbm, 611, rfl⟩
abbrev main_call2_call3_call0_v42 : Ref sig .tc := ⟨.hbm, 612, rfl⟩
abbrev main_call2_call3_call0_c_10 : Ref sig .tc := ⟨.hbm, 613, rfl⟩
abbrev main_call2_call3_call0_v43 : Ref sig .tc := ⟨.hbm, 614, rfl⟩
abbrev main_call2_call3_call0_v44 : Ref sig .tc := ⟨.hbm, 615, rfl⟩
abbrev main_call2_call3_call0_v45 : Ref sig .tc := ⟨.hbm, 616, rfl⟩
abbrev main_call2_call3_call0_v46 : Ref sig .tc := ⟨.hbm, 617, rfl⟩
abbrev main_call2_call3_call0_v47 : Ref sig .tc := ⟨.hbm, 618, rfl⟩
abbrev main_call2_call3_call0_c_11 : Ref sig .tc := ⟨.hbm, 619, rfl⟩
abbrev main_call2_call3_call0_v48 : Ref sig .tc := ⟨.hbm, 620, rfl⟩
abbrev main_call2_call3_call0_v49 : Ref sig .tc := ⟨.hbm, 621, rfl⟩
abbrev main_call2_call3_call0_c_12 : Ref sig .tc := ⟨.hbm, 622, rfl⟩
abbrev main_call2_call3_call0_v50 : Ref sig .tc := ⟨.hbm, 623, rfl⟩
abbrev main_call2_call3_call0_v51 : Ref sig .tc := ⟨.hbm, 624, rfl⟩
abbrev main_call2_call3_call0_v52 : Ref sig .tc := ⟨.hbm, 625, rfl⟩
abbrev main_call2_call3_call0_v53 : Ref sig .tc := ⟨.hbm, 626, rfl⟩
abbrev main_call2_call3_call0_v54 : Ref sig .tc := ⟨.hbm, 627, rfl⟩
abbrev main_call2_call3_call0_c_13 : Ref sig .tc := ⟨.hbm, 628, rfl⟩
abbrev main_call2_call3_call0_v55 : Ref sig .tc := ⟨.hbm, 629, rfl⟩
abbrev main_call2_call3_call0_v56 : Ref sig .tc := ⟨.hbm, 630, rfl⟩
abbrev main_call2_call3_call0_c_14 : Ref sig .tc := ⟨.hbm, 631, rfl⟩
abbrev main_call2_call3_call0_v57 : Ref sig .tc := ⟨.hbm, 632, rfl⟩
abbrev main_call2_call3_call0_v58 : Ref sig .tc := ⟨.hbm, 633, rfl⟩
abbrev main_call2_call3_call0_v59 : Ref sig .tc := ⟨.hbm, 634, rfl⟩
abbrev main_call2_call3_call0_v60 : Ref sig .tc := ⟨.hbm, 635, rfl⟩
abbrev main_call2_call3_call0_v61 : Ref sig .tc := ⟨.hbm, 636, rfl⟩
abbrev main_call2_call3_call0_c_15 : Ref sig .tc := ⟨.hbm, 637, rfl⟩
abbrev main_call2_call3_call0_v62 : Ref sig .tc := ⟨.hbm, 638, rfl⟩
abbrev main_call2_call3_call0_v63 : Ref sig .tc := ⟨.hbm, 639, rfl⟩
abbrev main_call2_call3_call0_c_16 : Ref sig .tc := ⟨.hbm, 640, rfl⟩
abbrev main_call2_call3_call0_v64 : Ref sig .tc := ⟨.hbm, 641, rfl⟩
abbrev main_call2_call3_call0_v65 : Ref sig .tc := ⟨.hbm, 642, rfl⟩
abbrev main_call2_call3_call0_v66 : Ref sig .tc := ⟨.hbm, 643, rfl⟩
abbrev main_call2_call3_call0_v67 : Ref sig .tc := ⟨.hbm, 644, rfl⟩
abbrev main_call2_call3_call0_v68 : Ref sig .tc := ⟨.hbm, 645, rfl⟩
abbrev main_call2_call3_call0_v69 : Ref sig .tc := ⟨.hbm, 646, rfl⟩
abbrev main_call2_call3_call0_v70 : Ref sig .tc := ⟨.hbm, 647, rfl⟩
abbrev main_call2_call3_call0_v71 : Ref sig .tc := ⟨.hbm, 648, rfl⟩
abbrev main_call2_call3_call0_c_17 : Ref sig .tc := ⟨.hbm, 649, rfl⟩
abbrev main_call2_call3_call0_v72 : Ref sig .tc := ⟨.hbm, 650, rfl⟩
abbrev main_call2_call3_call0_v73 : Ref sig .tc := ⟨.hbm, 651, rfl⟩
abbrev main_call2_call3_call0_v74 : Ref sig .tc := ⟨.hbm, 652, rfl⟩
abbrev main_call2_call3_call0_c_18 : Ref sig .tc := ⟨.hbm, 653, rfl⟩
abbrev main_call2_call3_call0_v75 : Ref sig .tc := ⟨.hbm, 654, rfl⟩
abbrev main_call2_call3_call0_v76 : Ref sig .tc := ⟨.hbm, 655, rfl⟩
abbrev main_call2_call3_call0_c_19 : Ref sig .tc := ⟨.hbm, 656, rfl⟩
abbrev main_call2_call3_call0_v77 : Ref sig .tc := ⟨.hbm, 657, rfl⟩
abbrev main_call2_call3_call0_v78 : Ref sig .tc := ⟨.hbm, 658, rfl⟩
abbrev main_call2_call3_call0_v79 : Ref sig .tc := ⟨.hbm, 659, rfl⟩
abbrev main_call2_call3_call0_v80 : Ref sig .tc := ⟨.hbm, 660, rfl⟩
abbrev main_call2_call3_call0_v81 : Ref sig .tc := ⟨.hbm, 661, rfl⟩
abbrev main_call2_call3_call0_c_20 : Ref sig .tc := ⟨.hbm, 662, rfl⟩
abbrev main_call2_call3_call0_v82 : Ref sig .tc := ⟨.hbm, 663, rfl⟩
abbrev main_call2_call3_call0_v83 : Ref sig .tc := ⟨.hbm, 664, rfl⟩
abbrev main_call2_call3_call0_c_21 : Ref sig .tc := ⟨.hbm, 665, rfl⟩
abbrev main_call2_call3_call0_v84 : Ref sig .tc := ⟨.hbm, 666, rfl⟩
abbrev main_call2_call3_call0_v85 : Ref sig .tc := ⟨.hbm, 667, rfl⟩
abbrev main_call2_call3_call0_v86 : Ref sig .tc := ⟨.hbm, 668, rfl⟩
abbrev main_call2_call3_call0_v87 : Ref sig .tc := ⟨.hbm, 669, rfl⟩
abbrev main_call2_call3_call0_v88 : Ref sig .tc := ⟨.hbm, 670, rfl⟩
abbrev main_call2_call3_call0_c_22 : Ref sig .tc := ⟨.hbm, 671, rfl⟩
abbrev main_call2_call3_call0_v89 : Ref sig .tc := ⟨.hbm, 672, rfl⟩
abbrev main_call2_call3_call0_v90 : Ref sig .tc := ⟨.hbm, 673, rfl⟩
abbrev main_call2_call3_call0_c_23 : Ref sig .tc := ⟨.hbm, 674, rfl⟩
abbrev main_call2_call3_call0_v91 : Ref sig .tc := ⟨.hbm, 675, rfl⟩
abbrev main_call2_call3_call0_v92 : Ref sig .tc := ⟨.hbm, 676, rfl⟩
abbrev main_call2_call3_call0_v93 : Ref sig .tc := ⟨.hbm, 677, rfl⟩
abbrev main_call2_call3_call0_v94 : Ref sig .tc := ⟨.hbm, 678, rfl⟩
abbrev main_call2_call3_call0_v95 : Ref sig .tc := ⟨.hbm, 679, rfl⟩
abbrev main_call2_call3_call0_c_24 : Ref sig .tc := ⟨.hbm, 680, rfl⟩
abbrev main_call2_call3_call0_v96 : Ref sig .tc := ⟨.hbm, 681, rfl⟩
abbrev main_call2_call3_call0_v97 : Ref sig .tc := ⟨.hbm, 682, rfl⟩
abbrev main_call2_call3_call0_c_25 : Ref sig .tc := ⟨.hbm, 683, rfl⟩
abbrev main_call2_call3_call0_v98 : Ref sig .tc := ⟨.hbm, 684, rfl⟩
abbrev main_call2_call3_call0_v99 : Ref sig .tc := ⟨.hbm, 685, rfl⟩
abbrev main_call2_call3_call0_v100 : Ref sig .tc := ⟨.hbm, 686, rfl⟩
abbrev main_call2_call3_call0_v101 : Ref sig .tc := ⟨.hbm, 687, rfl⟩
abbrev main_call2_call3_call0_v102 : Ref sig .tc := ⟨.hbm, 688, rfl⟩
abbrev main_call2_call3_call0_v103 : Ref sig .tc := ⟨.hbm, 689, rfl⟩
abbrev main_call2_call3_call0_v104 : Ref sig .tc := ⟨.hbm, 690, rfl⟩
abbrev main_call2_call3_call0_v105 : Ref sig .tc := ⟨.hbm, 691, rfl⟩
abbrev main_call2_call3_call0_c_26 : Ref sig .tc := ⟨.hbm, 692, rfl⟩
abbrev main_call2_call3_call0_v106 : Ref sig .tc := ⟨.hbm, 693, rfl⟩
abbrev main_call2_call3_call0_v107 : Ref sig .tc := ⟨.hbm, 694, rfl⟩
abbrev main_call2_call3_call0_v108 : Ref sig .tc := ⟨.hbm, 695, rfl⟩
abbrev main_call2_call3_call0_c_27 : Ref sig .tc := ⟨.hbm, 696, rfl⟩
abbrev main_call2_call3_call0_v109 : Ref sig .tc := ⟨.hbm, 697, rfl⟩
abbrev main_call2_call3_call0_v110 : Ref sig .tc := ⟨.hbm, 698, rfl⟩
abbrev main_call2_call3_call0_c_28 : Ref sig .tc := ⟨.hbm, 699, rfl⟩
abbrev main_call2_call3_call0_v111 : Ref sig .tc := ⟨.hbm, 700, rfl⟩
abbrev main_call2_call3_call0_v112 : Ref sig .tc := ⟨.hbm, 701, rfl⟩
abbrev main_call2_call3_call0_v113 : Ref sig .tc := ⟨.hbm, 702, rfl⟩
abbrev main_call2_call3_call0_v114 : Ref sig .tc := ⟨.hbm, 703, rfl⟩
abbrev main_call2_call3_call0_v115 : Ref sig .tc := ⟨.hbm, 704, rfl⟩
abbrev main_call2_call3_call0_c_29 : Ref sig .tc := ⟨.hbm, 705, rfl⟩
abbrev main_call2_call3_call0_v116 : Ref sig .tc := ⟨.hbm, 706, rfl⟩
abbrev main_call2_call3_call0_v117 : Ref sig .tc := ⟨.hbm, 707, rfl⟩
abbrev main_call2_call3_call0_c_30 : Ref sig .tc := ⟨.hbm, 708, rfl⟩
abbrev main_call2_call3_call0_v118 : Ref sig .tc := ⟨.hbm, 709, rfl⟩
abbrev main_call2_call3_call0_v119 : Ref sig .tc := ⟨.hbm, 710, rfl⟩
abbrev main_call2_call3_call0_v120 : Ref sig .tc := ⟨.hbm, 711, rfl⟩
abbrev main_call2_call3_call0_v121 : Ref sig .tc := ⟨.hbm, 712, rfl⟩
abbrev main_call2_call3_call0_v122 : Ref sig .tc := ⟨.hbm, 713, rfl⟩
abbrev main_call2_call3_call0_c_31 : Ref sig .tc := ⟨.hbm, 714, rfl⟩
abbrev main_call2_call3_call0_v123 : Ref sig .tc := ⟨.hbm, 715, rfl⟩
abbrev main_call2_call3_call0_v124 : Ref sig .tc := ⟨.hbm, 716, rfl⟩
abbrev main_call2_call3_call0_c_32 : Ref sig .tc := ⟨.hbm, 717, rfl⟩
abbrev main_call2_call3_call0_v125 : Ref sig .tc := ⟨.hbm, 718, rfl⟩
abbrev main_call2_call3_call0_v126 : Ref sig .tc := ⟨.hbm, 719, rfl⟩
abbrev main_call2_call3_call0_v127 : Ref sig .tc := ⟨.hbm, 720, rfl⟩
abbrev main_call2_call3_call0_v128 : Ref sig .tc := ⟨.hbm, 721, rfl⟩
abbrev main_call2_call3_call0_v129 : Ref sig .tc := ⟨.hbm, 722, rfl⟩
abbrev main_call2_call3_call0_c_33 : Ref sig .tc := ⟨.hbm, 723, rfl⟩
abbrev main_call2_call3_call0_v130 : Ref sig .tc := ⟨.hbm, 724, rfl⟩
abbrev main_call2_call3_call0_v131 : Ref sig .tc := ⟨.hbm, 725, rfl⟩
abbrev main_call2_call3_call0_c_34 : Ref sig .tc := ⟨.hbm, 726, rfl⟩
abbrev main_call2_call3_call0_v132 : Ref sig .tc := ⟨.hbm, 727, rfl⟩
abbrev main_call2_call3_call0_v133 : Ref sig .tc := ⟨.hbm, 728, rfl⟩
abbrev main_call2_call3_call0_v134 : Ref sig .tc := ⟨.hbm, 729, rfl⟩
abbrev main_call2_call3_call0_v135 : Ref sig .tc := ⟨.hbm, 730, rfl⟩
abbrev main_call2_call3_call0_v136 : Ref sig .tc := ⟨.hbm, 731, rfl⟩
abbrev main_call2_call3_call0_v137 : Ref sig .tc := ⟨.hbm, 732, rfl⟩
abbrev main_call2_call3_call0_v138 : Ref sig .tc := ⟨.hbm, 733, rfl⟩
abbrev main_call2_call3_call0_v139 : Ref sig .tc := ⟨.hbm, 734, rfl⟩
abbrev main_call2_call3_call0_c_35 : Ref sig .tc := ⟨.hbm, 735, rfl⟩
abbrev main_call2_call3_call0_v140 : Ref sig .tc := ⟨.hbm, 736, rfl⟩
abbrev main_call2_call3_call0_v141 : Ref sig .tc := ⟨.hbm, 737, rfl⟩
abbrev main_call2_call3_call0_v142 : Ref sig .tc := ⟨.hbm, 738, rfl⟩
abbrev main_call2_call3_call0_c_36 : Ref sig .tc := ⟨.hbm, 739, rfl⟩
abbrev main_call2_call3_call0_v143 : Ref sig .tc := ⟨.hbm, 740, rfl⟩
abbrev main_call2_call3_call0_v144 : Ref sig .tc := ⟨.hbm, 741, rfl⟩
abbrev main_call2_call3_call0_c_37 : Ref sig .tc := ⟨.hbm, 742, rfl⟩
abbrev main_call2_call3_call0_v145 : Ref sig .tc := ⟨.hbm, 743, rfl⟩
abbrev main_call2_call3_call0_v146 : Ref sig .tc := ⟨.hbm, 744, rfl⟩
abbrev main_call2_call3_call0_v147 : Ref sig .tc := ⟨.hbm, 745, rfl⟩
abbrev main_call2_call3_call0_v148 : Ref sig .tc := ⟨.hbm, 746, rfl⟩
abbrev main_call2_call3_call0_v149 : Ref sig .tc := ⟨.hbm, 747, rfl⟩
abbrev main_call2_call3_call0_c_38 : Ref sig .tc := ⟨.hbm, 748, rfl⟩
abbrev main_call2_call3_call0_v150 : Ref sig .tc := ⟨.hbm, 749, rfl⟩
abbrev main_call2_call3_call0_v151 : Ref sig .tc := ⟨.hbm, 750, rfl⟩
abbrev main_call2_call3_call0_c_39 : Ref sig .tc := ⟨.hbm, 751, rfl⟩
abbrev main_call2_call3_call0_v152 : Ref sig .tc := ⟨.hbm, 752, rfl⟩
abbrev main_call2_call3_call0_v153 : Ref sig .tc := ⟨.hbm, 753, rfl⟩
abbrev main_call2_call3_call0_v154 : Ref sig .tc := ⟨.hbm, 754, rfl⟩
abbrev main_call2_call3_call0_v155 : Ref sig .tc := ⟨.hbm, 755, rfl⟩
abbrev main_call2_call3_call0_v156 : Ref sig .tc := ⟨.hbm, 756, rfl⟩
abbrev main_call2_call3_call0_c_40 : Ref sig .tc := ⟨.hbm, 757, rfl⟩
abbrev main_call2_call3_call0_v157 : Ref sig .tc := ⟨.hbm, 758, rfl⟩
abbrev main_call2_call3_call0_v158 : Ref sig .tc := ⟨.hbm, 759, rfl⟩
abbrev main_call2_call3_call0_c_41 : Ref sig .tc := ⟨.hbm, 760, rfl⟩
abbrev main_call2_call3_call0_v159 : Ref sig .tc := ⟨.hbm, 761, rfl⟩
abbrev main_call2_call3_call0_v160 : Ref sig .tc := ⟨.hbm, 762, rfl⟩
abbrev main_call2_call3_call0_v161 : Ref sig .tc := ⟨.hbm, 763, rfl⟩
abbrev main_call2_call3_call0_v162 : Ref sig .tc := ⟨.hbm, 764, rfl⟩
abbrev main_call2_call3_call0_v163 : Ref sig .tc := ⟨.hbm, 765, rfl⟩
abbrev main_call2_call3_call0_c_42 : Ref sig .tc := ⟨.hbm, 766, rfl⟩
abbrev main_call2_call3_call0_v164 : Ref sig .tc := ⟨.hbm, 767, rfl⟩
abbrev main_call2_call3_call0_v165 : Ref sig .tc := ⟨.hbm, 768, rfl⟩
abbrev main_call2_call3_call0_c_43 : Ref sig .tc := ⟨.hbm, 769, rfl⟩
abbrev main_call2_call3_call0_v166 : Ref sig .tc := ⟨.hbm, 770, rfl⟩
abbrev main_call2_call3_call0_v167 : Ref sig .tc := ⟨.hbm, 771, rfl⟩
abbrev main_call2_call3_call0_v168 : Ref sig .tc := ⟨.hbm, 772, rfl⟩
abbrev main_call2_call3_call0_v169 : Ref sig .tc := ⟨.hbm, 773, rfl⟩
abbrev main_call2_call3_call0_v170 : Ref sig .tc := ⟨.hbm, 774, rfl⟩
abbrev main_call2_call3_v11_0 : Ref sig .tc := ⟨.hbm, 775, rfl⟩
abbrev main_call2_call3_call0_v172 : Ref sig .tc := ⟨.hbm, 776, rfl⟩
abbrev main_call2_call3_call0_v173 : Ref sig .tc := ⟨.hbm, 777, rfl⟩
abbrev main_call2_call3_call0_c_44 : Ref sig .tc := ⟨.hbm, 778, rfl⟩
abbrev main_call2_call3_call0_v174 : Ref sig .tc := ⟨.hbm, 779, rfl⟩
abbrev main_call2_call3_v11_1 : Ref sig .tc := ⟨.hbm, 780, rfl⟩
abbrev main_call2_call3_v12 : Ref sig .tc := ⟨.hbm, 781, rfl⟩
abbrev main_call2_call3_v13 : Ref sig .tc := ⟨.hbm, 782, rfl⟩
abbrev main_call2_v8 : Ref sig .tc := ⟨.hbm, 783, rfl⟩
abbrev main_call2_v9 : Ref sig .tc := ⟨.hbm, 784, rfl⟩
abbrev main_call2_v10 : Ref sig .tc := ⟨.hbm, 785, rfl⟩
abbrev main_call2_v11 : Ref sig .tc := ⟨.hbm, 786, rfl⟩
abbrev main_call2_v12 : Ref sig .tc := ⟨.hbm, 787, rfl⟩
abbrev main_call2_v13 : Ref sig .tc := ⟨.hbm, 788, rfl⟩
abbrev main_call2_v14 : Ref sig .tc := ⟨.hbm, 789, rfl⟩
abbrev main_call2_v15 : Ref sig .tc := ⟨.hbm, 790, rfl⟩
abbrev main_call2_v16 : Ref sig .tc := ⟨.hbm, 791, rfl⟩
abbrev main_call2_v17 : Ref sig .tc := ⟨.hbm, 792, rfl⟩
abbrev main_call2_v18 : Ref sig .tc := ⟨.hbm, 793, rfl⟩
abbrev main_call2_v19 : Ref sig .tc := ⟨.hbm, 794, rfl⟩
abbrev main_call2_c_6 : Ref sig .tc := ⟨.hbm, 795, rfl⟩
abbrev main_call2_v20 : Ref sig .tc := ⟨.hbm, 796, rfl⟩
abbrev main_call2_v21 : Ref sig .tc := ⟨.hbm, 797, rfl⟩
abbrev main_call2_c_7 : Ref sig .tc := ⟨.hbm, 798, rfl⟩
abbrev main_call2_v22 : Ref sig .tc := ⟨.hbm, 799, rfl⟩
abbrev main_call2_v23 : Ref sig .tc := ⟨.hbm, 800, rfl⟩
abbrev main_call2_c_8 : Ref sig .tc := ⟨.hbm, 801, rfl⟩
abbrev main_call2_v24 : Ref sig .tc := ⟨.hbm, 802, rfl⟩
abbrev main_call2_v25 : Ref sig .tc := ⟨.hbm, 803, rfl⟩
abbrev main_call2_v26 : Ref sig .tc := ⟨.hbm, 804, rfl⟩
abbrev main_call2_v27 : Ref sig .tc := ⟨.hbm, 805, rfl⟩
abbrev main_call2_c_9 : Ref sig .tc := ⟨.hbm, 806, rfl⟩
abbrev main_call2_v28 : Ref sig .tc := ⟨.hbm, 807, rfl⟩
abbrev main_call2_v29 : Ref sig .tc := ⟨.hbm, 808, rfl⟩
abbrev main_call2_v30 : Ref sig .tc := ⟨.hbm, 809, rfl⟩
abbrev main_call2_v31 : Ref sig .tc := ⟨.hbm, 810, rfl⟩
abbrev main_call2_call4_v0 : Ref sig .tc := ⟨.hbm, 811, rfl⟩
abbrev main_call2_call4_c : Ref sig .tc := ⟨.hbm, 812, rfl⟩
abbrev main_call2_call4_v1 : Ref sig .tc := ⟨.hbm, 813, rfl⟩
abbrev main_call2_call4_v2 : Ref sig .tc := ⟨.hbm, 814, rfl⟩
abbrev main_call2_call4_v3 : Ref sig .tc := ⟨.hbm, 815, rfl⟩
abbrev main_call2_call4_v4 : Ref sig .tc := ⟨.hbm, 816, rfl⟩
abbrev main_call2_call4_v5 : Ref sig .tc := ⟨.hbm, 817, rfl⟩
abbrev main_call2_call4_v6 : Ref sig .tc := ⟨.hbm, 818, rfl⟩
abbrev main_call2_call4_c_0 : Ref sig .tc := ⟨.hbm, 819, rfl⟩
abbrev main_call2_call4_v7 : Ref sig .tc := ⟨.hbm, 820, rfl⟩
abbrev main_call2_call4_v8 : Ref sig .tc := ⟨.hbm, 821, rfl⟩
abbrev main_call2_call4_c_1 : Ref sig .tc := ⟨.hbm, 822, rfl⟩
abbrev main_call2_call4_v9 : Ref sig .tc := ⟨.hbm, 823, rfl⟩
abbrev main_call2_call4_v10 : Ref sig .tc := ⟨.hbm, 824, rfl⟩
abbrev main_call2_call4_v11 : Ref sig .tc := ⟨.hbm, 825, rfl⟩
abbrev main_call2_call4_v12 : Ref sig .tc := ⟨.hbm, 826, rfl⟩
abbrev main_call2_call4_v13 : Ref sig .tc := ⟨.hbm, 827, rfl⟩
abbrev main_call2_call4_c_2 : Ref sig .tc := ⟨.hbm, 828, rfl⟩
abbrev main_call2_call4_v14 : Ref sig .tc := ⟨.hbm, 829, rfl⟩
abbrev main_call2_call4_v15 : Ref sig .tc := ⟨.hbm, 830, rfl⟩
abbrev main_call2_call4_c_3 : Ref sig .tc := ⟨.hbm, 831, rfl⟩
abbrev main_call2_call4_v16 : Ref sig .tc := ⟨.hbm, 832, rfl⟩
abbrev main_call2_call4_v17 : Ref sig .tc := ⟨.hbm, 833, rfl⟩
abbrev main_call2_call4_v18 : Ref sig .tc := ⟨.hbm, 834, rfl⟩
abbrev main_call2_call4_v19 : Ref sig .tc := ⟨.hbm, 835, rfl⟩
abbrev main_call2_call4_v20 : Ref sig .tc := ⟨.hbm, 836, rfl⟩
abbrev main_call2_call4_c_4 : Ref sig .tc := ⟨.hbm, 837, rfl⟩
abbrev main_call2_call4_v21 : Ref sig .tc := ⟨.hbm, 838, rfl⟩
abbrev main_call2_call4_v22 : Ref sig .tc := ⟨.hbm, 839, rfl⟩
abbrev main_call2_call4_c_5 : Ref sig .tc := ⟨.hbm, 840, rfl⟩
abbrev main_call2_call4_v23 : Ref sig .tc := ⟨.hbm, 841, rfl⟩
abbrev main_call2_call4_v24 : Ref sig .tc := ⟨.hbm, 842, rfl⟩
abbrev main_call2_call4_v25 : Ref sig .tc := ⟨.hbm, 843, rfl⟩
abbrev main_call2_call4_v26 : Ref sig .tc := ⟨.hbm, 844, rfl⟩
abbrev main_call2_call4_v27 : Ref sig .tc := ⟨.hbm, 845, rfl⟩
abbrev main_call2_call4_c_6 : Ref sig .tc := ⟨.hbm, 846, rfl⟩
abbrev main_call2_call4_v28 : Ref sig .tc := ⟨.hbm, 847, rfl⟩
abbrev main_call2_call4_v29 : Ref sig .tc := ⟨.hbm, 848, rfl⟩
abbrev main_call2_call4_c_7 : Ref sig .tc := ⟨.hbm, 849, rfl⟩
abbrev main_call2_call4_v30 : Ref sig .tc := ⟨.hbm, 850, rfl⟩
abbrev main_call2_call4_v31 : Ref sig .tc := ⟨.hbm, 851, rfl⟩
abbrev main_call2_call4_v32 : Ref sig .tc := ⟨.hbm, 852, rfl⟩
abbrev main_call2_call4_v33 : Ref sig .tc := ⟨.hbm, 853, rfl⟩
abbrev main_call2_call4_v34 : Ref sig .tc := ⟨.hbm, 854, rfl⟩
abbrev main_call2_call4_v35 : Ref sig .tc := ⟨.hbm, 855, rfl⟩
abbrev main_call2_call4_v36 : Ref sig .tc := ⟨.hbm, 856, rfl⟩
abbrev main_call2_call4_v37 : Ref sig .tc := ⟨.hbm, 857, rfl⟩
abbrev main_call2_call4_c_8 : Ref sig .tc := ⟨.hbm, 858, rfl⟩
abbrev main_call2_call4_v38 : Ref sig .tc := ⟨.hbm, 859, rfl⟩
abbrev main_call2_call4_v39 : Ref sig .tc := ⟨.hbm, 860, rfl⟩
abbrev main_call2_call4_v40 : Ref sig .tc := ⟨.hbm, 861, rfl⟩
abbrev main_call2_call4_c_9 : Ref sig .tc := ⟨.hbm, 862, rfl⟩
abbrev main_call2_call4_v41 : Ref sig .tc := ⟨.hbm, 863, rfl⟩
abbrev main_call2_call4_v42 : Ref sig .tc := ⟨.hbm, 864, rfl⟩
abbrev main_call2_call4_c_10 : Ref sig .tc := ⟨.hbm, 865, rfl⟩
abbrev main_call2_call4_v43 : Ref sig .tc := ⟨.hbm, 866, rfl⟩
abbrev main_call2_call4_v44 : Ref sig .tc := ⟨.hbm, 867, rfl⟩
abbrev main_call2_call4_v45 : Ref sig .tc := ⟨.hbm, 868, rfl⟩
abbrev main_call2_call4_v46 : Ref sig .tc := ⟨.hbm, 869, rfl⟩
abbrev main_call2_call4_v47 : Ref sig .tc := ⟨.hbm, 870, rfl⟩
abbrev main_call2_call4_c_11 : Ref sig .tc := ⟨.hbm, 871, rfl⟩
abbrev main_call2_call4_v48 : Ref sig .tc := ⟨.hbm, 872, rfl⟩
abbrev main_call2_call4_v49 : Ref sig .tc := ⟨.hbm, 873, rfl⟩
abbrev main_call2_call4_c_12 : Ref sig .tc := ⟨.hbm, 874, rfl⟩
abbrev main_call2_call4_v50 : Ref sig .tc := ⟨.hbm, 875, rfl⟩
abbrev main_call2_call4_v51 : Ref sig .tc := ⟨.hbm, 876, rfl⟩
abbrev main_call2_call4_v52 : Ref sig .tc := ⟨.hbm, 877, rfl⟩
abbrev main_call2_call4_v53 : Ref sig .tc := ⟨.hbm, 878, rfl⟩
abbrev main_call2_call4_v54 : Ref sig .tc := ⟨.hbm, 879, rfl⟩
abbrev main_call2_call4_c_13 : Ref sig .tc := ⟨.hbm, 880, rfl⟩
abbrev main_call2_call4_v55 : Ref sig .tc := ⟨.hbm, 881, rfl⟩
abbrev main_call2_call4_v56 : Ref sig .tc := ⟨.hbm, 882, rfl⟩
abbrev main_call2_call4_c_14 : Ref sig .tc := ⟨.hbm, 883, rfl⟩
abbrev main_call2_call4_v57 : Ref sig .tc := ⟨.hbm, 884, rfl⟩
abbrev main_call2_call4_v58 : Ref sig .tc := ⟨.hbm, 885, rfl⟩
abbrev main_call2_call4_v59 : Ref sig .tc := ⟨.hbm, 886, rfl⟩
abbrev main_call2_call4_v60 : Ref sig .tc := ⟨.hbm, 887, rfl⟩
abbrev main_call2_call4_v61 : Ref sig .tc := ⟨.hbm, 888, rfl⟩
abbrev main_call2_call4_c_15 : Ref sig .tc := ⟨.hbm, 889, rfl⟩
abbrev main_call2_call4_v62 : Ref sig .tc := ⟨.hbm, 890, rfl⟩
abbrev main_call2_call4_v63 : Ref sig .tc := ⟨.hbm, 891, rfl⟩
abbrev main_call2_call4_c_16 : Ref sig .tc := ⟨.hbm, 892, rfl⟩
abbrev main_call2_call4_v64 : Ref sig .tc := ⟨.hbm, 893, rfl⟩
abbrev main_call2_call4_v65 : Ref sig .tc := ⟨.hbm, 894, rfl⟩
abbrev main_call2_call4_v66 : Ref sig .tc := ⟨.hbm, 895, rfl⟩
abbrev main_call2_call4_v67 : Ref sig .tc := ⟨.hbm, 896, rfl⟩
abbrev main_call2_call4_v68 : Ref sig .tc := ⟨.hbm, 897, rfl⟩
abbrev main_call2_call4_v69 : Ref sig .tc := ⟨.hbm, 898, rfl⟩
abbrev main_call2_call4_v70 : Ref sig .tc := ⟨.hbm, 899, rfl⟩
abbrev main_call2_call4_v71 : Ref sig .tc := ⟨.hbm, 900, rfl⟩
abbrev main_call2_call4_c_17 : Ref sig .tc := ⟨.hbm, 901, rfl⟩
abbrev main_call2_call4_v72 : Ref sig .tc := ⟨.hbm, 902, rfl⟩
abbrev main_call2_call4_v73 : Ref sig .tc := ⟨.hbm, 903, rfl⟩
abbrev main_call2_call4_v74 : Ref sig .tc := ⟨.hbm, 904, rfl⟩
abbrev main_call2_call4_c_18 : Ref sig .tc := ⟨.hbm, 905, rfl⟩
abbrev main_call2_call4_v75 : Ref sig .tc := ⟨.hbm, 906, rfl⟩
abbrev main_call2_call4_v76 : Ref sig .tc := ⟨.hbm, 907, rfl⟩
abbrev main_call2_call4_c_19 : Ref sig .tc := ⟨.hbm, 908, rfl⟩
abbrev main_call2_call4_v77 : Ref sig .tc := ⟨.hbm, 909, rfl⟩
abbrev main_call2_call4_v78 : Ref sig .tc := ⟨.hbm, 910, rfl⟩
abbrev main_call2_call4_v79 : Ref sig .tc := ⟨.hbm, 911, rfl⟩
abbrev main_call2_call4_v80 : Ref sig .tc := ⟨.hbm, 912, rfl⟩
abbrev main_call2_call4_v81 : Ref sig .tc := ⟨.hbm, 913, rfl⟩
abbrev main_call2_call4_c_20 : Ref sig .tc := ⟨.hbm, 914, rfl⟩
abbrev main_call2_call4_v82 : Ref sig .tc := ⟨.hbm, 915, rfl⟩
abbrev main_call2_call4_v83 : Ref sig .tc := ⟨.hbm, 916, rfl⟩
abbrev main_call2_call4_c_21 : Ref sig .tc := ⟨.hbm, 917, rfl⟩
abbrev main_call2_call4_v84 : Ref sig .tc := ⟨.hbm, 918, rfl⟩
abbrev main_call2_call4_v85 : Ref sig .tc := ⟨.hbm, 919, rfl⟩
abbrev main_call2_call4_v86 : Ref sig .tc := ⟨.hbm, 920, rfl⟩
abbrev main_call2_call4_v87 : Ref sig .tc := ⟨.hbm, 921, rfl⟩
abbrev main_call2_call4_v88 : Ref sig .tc := ⟨.hbm, 922, rfl⟩
abbrev main_call2_call4_c_22 : Ref sig .tc := ⟨.hbm, 923, rfl⟩
abbrev main_call2_call4_v89 : Ref sig .tc := ⟨.hbm, 924, rfl⟩
abbrev main_call2_call4_v90 : Ref sig .tc := ⟨.hbm, 925, rfl⟩
abbrev main_call2_call4_c_23 : Ref sig .tc := ⟨.hbm, 926, rfl⟩
abbrev main_call2_call4_v91 : Ref sig .tc := ⟨.hbm, 927, rfl⟩
abbrev main_call2_call4_v92 : Ref sig .tc := ⟨.hbm, 928, rfl⟩
abbrev main_call2_call4_v93 : Ref sig .tc := ⟨.hbm, 929, rfl⟩
abbrev main_call2_call4_v94 : Ref sig .tc := ⟨.hbm, 930, rfl⟩
abbrev main_call2_call4_v95 : Ref sig .tc := ⟨.hbm, 931, rfl⟩
abbrev main_call2_call4_c_24 : Ref sig .tc := ⟨.hbm, 932, rfl⟩
abbrev main_call2_call4_v96 : Ref sig .tc := ⟨.hbm, 933, rfl⟩
abbrev main_call2_call4_v97 : Ref sig .tc := ⟨.hbm, 934, rfl⟩
abbrev main_call2_call4_c_25 : Ref sig .tc := ⟨.hbm, 935, rfl⟩
abbrev main_call2_call4_v98 : Ref sig .tc := ⟨.hbm, 936, rfl⟩
abbrev main_call2_call4_v99 : Ref sig .tc := ⟨.hbm, 937, rfl⟩
abbrev main_call2_call4_v100 : Ref sig .tc := ⟨.hbm, 938, rfl⟩
abbrev main_call2_call4_v101 : Ref sig .tc := ⟨.hbm, 939, rfl⟩
abbrev main_call2_call4_v102 : Ref sig .tc := ⟨.hbm, 940, rfl⟩
abbrev main_call2_call4_v103 : Ref sig .tc := ⟨.hbm, 941, rfl⟩
abbrev main_call2_call4_v104 : Ref sig .tc := ⟨.hbm, 942, rfl⟩
abbrev main_call2_call4_v105 : Ref sig .tc := ⟨.hbm, 943, rfl⟩
abbrev main_call2_call4_c_26 : Ref sig .tc := ⟨.hbm, 944, rfl⟩
abbrev main_call2_call4_v106 : Ref sig .tc := ⟨.hbm, 945, rfl⟩
abbrev main_call2_call4_v107 : Ref sig .tc := ⟨.hbm, 946, rfl⟩
abbrev main_call2_call4_v108 : Ref sig .tc := ⟨.hbm, 947, rfl⟩
abbrev main_call2_call4_c_27 : Ref sig .tc := ⟨.hbm, 948, rfl⟩
abbrev main_call2_call4_v109 : Ref sig .tc := ⟨.hbm, 949, rfl⟩
abbrev main_call2_call4_v110 : Ref sig .tc := ⟨.hbm, 950, rfl⟩
abbrev main_call2_call4_c_28 : Ref sig .tc := ⟨.hbm, 951, rfl⟩
abbrev main_call2_call4_v111 : Ref sig .tc := ⟨.hbm, 952, rfl⟩
abbrev main_call2_call4_v112 : Ref sig .tc := ⟨.hbm, 953, rfl⟩
abbrev main_call2_call4_v113 : Ref sig .tc := ⟨.hbm, 954, rfl⟩
abbrev main_call2_call4_v114 : Ref sig .tc := ⟨.hbm, 955, rfl⟩
abbrev main_call2_call4_v115 : Ref sig .tc := ⟨.hbm, 956, rfl⟩
abbrev main_call2_call4_c_29 : Ref sig .tc := ⟨.hbm, 957, rfl⟩
abbrev main_call2_call4_v116 : Ref sig .tc := ⟨.hbm, 958, rfl⟩
abbrev main_call2_call4_v117 : Ref sig .tc := ⟨.hbm, 959, rfl⟩
abbrev main_call2_call4_c_30 : Ref sig .tc := ⟨.hbm, 960, rfl⟩
abbrev main_call2_call4_v118 : Ref sig .tc := ⟨.hbm, 961, rfl⟩
abbrev main_call2_call4_v119 : Ref sig .tc := ⟨.hbm, 962, rfl⟩
abbrev main_call2_call4_v120 : Ref sig .tc := ⟨.hbm, 963, rfl⟩
abbrev main_call2_call4_v121 : Ref sig .tc := ⟨.hbm, 964, rfl⟩
abbrev main_call2_call4_v122 : Ref sig .tc := ⟨.hbm, 965, rfl⟩
abbrev main_call2_call4_c_31 : Ref sig .tc := ⟨.hbm, 966, rfl⟩
abbrev main_call2_call4_v123 : Ref sig .tc := ⟨.hbm, 967, rfl⟩
abbrev main_call2_call4_v124 : Ref sig .tc := ⟨.hbm, 968, rfl⟩
abbrev main_call2_call4_c_32 : Ref sig .tc := ⟨.hbm, 969, rfl⟩
abbrev main_call2_call4_v125 : Ref sig .tc := ⟨.hbm, 970, rfl⟩
abbrev main_call2_call4_v126 : Ref sig .tc := ⟨.hbm, 971, rfl⟩
abbrev main_call2_call4_v127 : Ref sig .tc := ⟨.hbm, 972, rfl⟩
abbrev main_call2_call4_v128 : Ref sig .tc := ⟨.hbm, 973, rfl⟩
abbrev main_call2_call4_v129 : Ref sig .tc := ⟨.hbm, 974, rfl⟩
abbrev main_call2_call4_c_33 : Ref sig .tc := ⟨.hbm, 975, rfl⟩
abbrev main_call2_call4_v130 : Ref sig .tc := ⟨.hbm, 976, rfl⟩
abbrev main_call2_call4_v131 : Ref sig .tc := ⟨.hbm, 977, rfl⟩
abbrev main_call2_call4_c_34 : Ref sig .tc := ⟨.hbm, 978, rfl⟩
abbrev main_call2_call4_v132 : Ref sig .tc := ⟨.hbm, 979, rfl⟩
abbrev main_call2_call4_v133 : Ref sig .tc := ⟨.hbm, 980, rfl⟩
abbrev main_call2_call4_v134 : Ref sig .tc := ⟨.hbm, 981, rfl⟩
abbrev main_call2_call4_v135 : Ref sig .tc := ⟨.hbm, 982, rfl⟩
abbrev main_call2_call4_v136 : Ref sig .tc := ⟨.hbm, 983, rfl⟩
abbrev main_call2_call4_v137 : Ref sig .tc := ⟨.hbm, 984, rfl⟩
abbrev main_call2_call4_v138 : Ref sig .tc := ⟨.hbm, 985, rfl⟩
abbrev main_call2_call4_v139 : Ref sig .tc := ⟨.hbm, 986, rfl⟩
abbrev main_call2_call4_c_35 : Ref sig .tc := ⟨.hbm, 987, rfl⟩
abbrev main_call2_call4_v140 : Ref sig .tc := ⟨.hbm, 988, rfl⟩
abbrev main_call2_call4_v141 : Ref sig .tc := ⟨.hbm, 989, rfl⟩
abbrev main_call2_call4_v142 : Ref sig .tc := ⟨.hbm, 990, rfl⟩
abbrev main_call2_call4_c_36 : Ref sig .tc := ⟨.hbm, 991, rfl⟩
abbrev main_call2_call4_v143 : Ref sig .tc := ⟨.hbm, 992, rfl⟩
abbrev main_call2_call4_v144 : Ref sig .tc := ⟨.hbm, 993, rfl⟩
abbrev main_call2_call4_c_37 : Ref sig .tc := ⟨.hbm, 994, rfl⟩
abbrev main_call2_call4_v145 : Ref sig .tc := ⟨.hbm, 995, rfl⟩
abbrev main_call2_call4_v146 : Ref sig .tc := ⟨.hbm, 996, rfl⟩
abbrev main_call2_call4_v147 : Ref sig .tc := ⟨.hbm, 997, rfl⟩
abbrev main_call2_call4_v148 : Ref sig .tc := ⟨.hbm, 998, rfl⟩
abbrev main_call2_call4_v149 : Ref sig .tc := ⟨.hbm, 999, rfl⟩
abbrev main_call2_call4_c_38 : Ref sig .tc := ⟨.hbm, 1000, rfl⟩
abbrev main_call2_call4_v150 : Ref sig .tc := ⟨.hbm, 1001, rfl⟩
abbrev main_call2_call4_v151 : Ref sig .tc := ⟨.hbm, 1002, rfl⟩
abbrev main_call2_call4_c_39 : Ref sig .tc := ⟨.hbm, 1003, rfl⟩
abbrev main_call2_call4_v152 : Ref sig .tc := ⟨.hbm, 1004, rfl⟩
abbrev main_call2_call4_v153 : Ref sig .tc := ⟨.hbm, 1005, rfl⟩
abbrev main_call2_call4_v154 : Ref sig .tc := ⟨.hbm, 1006, rfl⟩
abbrev main_call2_call4_v155 : Ref sig .tc := ⟨.hbm, 1007, rfl⟩
abbrev main_call2_call4_v156 : Ref sig .tc := ⟨.hbm, 1008, rfl⟩
abbrev main_call2_call4_c_40 : Ref sig .tc := ⟨.hbm, 1009, rfl⟩
abbrev main_call2_call4_v157 : Ref sig .tc := ⟨.hbm, 1010, rfl⟩
abbrev main_call2_call4_v158 : Ref sig .tc := ⟨.hbm, 1011, rfl⟩
abbrev main_call2_call4_c_41 : Ref sig .tc := ⟨.hbm, 1012, rfl⟩
abbrev main_call2_call4_v159 : Ref sig .tc := ⟨.hbm, 1013, rfl⟩
abbrev main_call2_call4_v160 : Ref sig .tc := ⟨.hbm, 1014, rfl⟩
abbrev main_call2_call4_v161 : Ref sig .tc := ⟨.hbm, 1015, rfl⟩
abbrev main_call2_call4_v162 : Ref sig .tc := ⟨.hbm, 1016, rfl⟩
abbrev main_call2_call4_v163 : Ref sig .tc := ⟨.hbm, 1017, rfl⟩
abbrev main_call2_call4_c_42 : Ref sig .tc := ⟨.hbm, 1018, rfl⟩
abbrev main_call2_call4_v164 : Ref sig .tc := ⟨.hbm, 1019, rfl⟩
abbrev main_call2_call4_v165 : Ref sig .tc := ⟨.hbm, 1020, rfl⟩
abbrev main_call2_call4_c_43 : Ref sig .tc := ⟨.hbm, 1021, rfl⟩
abbrev main_call2_call4_v166 : Ref sig .tc := ⟨.hbm, 1022, rfl⟩
abbrev main_call2_call4_v167 : Ref sig .tc := ⟨.hbm, 1023, rfl⟩
abbrev main_call2_call4_v168 : Ref sig .tc := ⟨.hbm, 1024, rfl⟩
abbrev main_call2_call4_v169 : Ref sig .tc := ⟨.hbm, 1025, rfl⟩
abbrev main_call2_call4_v170 : Ref sig .tc := ⟨.hbm, 1026, rfl⟩
abbrev main_call2_v32_0 : Ref sig .tc := ⟨.hbm, 1027, rfl⟩
abbrev main_call2_call4_v172 : Ref sig .tc := ⟨.hbm, 1028, rfl⟩
abbrev main_call2_call4_v173 : Ref sig .tc := ⟨.hbm, 1029, rfl⟩
abbrev main_call2_call4_c_44 : Ref sig .tc := ⟨.hbm, 1030, rfl⟩
abbrev main_call2_call4_v174 : Ref sig .tc := ⟨.hbm, 1031, rfl⟩
abbrev main_call2_v32_1 : Ref sig .tc := ⟨.hbm, 1032, rfl⟩
abbrev main_call2_v33 : Ref sig .tc := ⟨.hbm, 1033, rfl⟩
abbrev main_call2_v34 : Ref sig .tc := ⟨.hbm, 1034, rfl⟩
abbrev main_call2_v35 : Ref sig .tc := ⟨.hbm, 1035, rfl⟩
abbrev main_call2_v36 : Ref sig .tc := ⟨.hbm, 1036, rfl⟩
abbrev main_call2_v37 : Ref sig .tc := ⟨.hbm, 1037, rfl⟩
abbrev main_call2_v38 : Ref sig .tc := ⟨.hbm, 1038, rfl⟩
abbrev main_call2_v39 : Ref sig .tc := ⟨.hbm, 1039, rfl⟩
abbrev main_call2_v40 : Ref sig .tc := ⟨.hbm, 1040, rfl⟩
abbrev main_call2_c_10 : Ref sig .tc := ⟨.hbm, 1041, rfl⟩
abbrev main_call2_v41 : Ref sig .tc := ⟨.hbm, 1042, rfl⟩
abbrev main_call2_v42 : Ref sig .tc := ⟨.hbm, 1043, rfl⟩
abbrev main_call2_c_11 : Ref sig .tc := ⟨.hbm, 1044, rfl⟩
abbrev main_call2_v43 : Ref sig .tc := ⟨.hbm, 1045, rfl⟩
abbrev main_call2_v44 : Ref sig .tc := ⟨.hbm, 1046, rfl⟩
abbrev main_call2_c_12 : Ref sig .tc := ⟨.hbm, 1047, rfl⟩
abbrev main_call2_v45 : Ref sig .tc := ⟨.hbm, 1048, rfl⟩
abbrev main_call2_v46 : Ref sig .tc := ⟨.hbm, 1049, rfl⟩
abbrev main_call2_v47 : Ref sig .tc := ⟨.hbm, 1050, rfl⟩
abbrev main_call2_v48 : Ref sig .tc := ⟨.hbm, 1051, rfl⟩
abbrev main_call2_c_13 : Ref sig .tc := ⟨.hbm, 1052, rfl⟩
abbrev main_call2_v49 : Ref sig .tc := ⟨.hbm, 1053, rfl⟩
abbrev main_call2_v50 : Ref sig .tc := ⟨.hbm, 1054, rfl⟩
abbrev main_call2_v51 : Ref sig .tc := ⟨.hbm, 1055, rfl⟩
abbrev main_call2_v52 : Ref sig .tc := ⟨.hbm, 1056, rfl⟩
abbrev main_call2_call5_v0 : Ref sig .tc := ⟨.hbm, 1057, rfl⟩
abbrev main_call2_call5_c : Ref sig .tc := ⟨.hbm, 1058, rfl⟩
abbrev main_call2_call5_v1 : Ref sig .tc := ⟨.hbm, 1059, rfl⟩
abbrev main_call2_call5_v2 : Ref sig .tc := ⟨.hbm, 1060, rfl⟩
abbrev main_call2_call5_v3 : Ref sig .tc := ⟨.hbm, 1061, rfl⟩
abbrev main_call2_call5_v4 : Ref sig .tc := ⟨.hbm, 1062, rfl⟩
abbrev main_call2_call5_v5 : Ref sig .tc := ⟨.hbm, 1063, rfl⟩
abbrev main_call2_call5_v6 : Ref sig .tc := ⟨.hbm, 1064, rfl⟩
abbrev main_call2_call5_c_0 : Ref sig .tc := ⟨.hbm, 1065, rfl⟩
abbrev main_call2_call5_v7 : Ref sig .tc := ⟨.hbm, 1066, rfl⟩
abbrev main_call2_call5_v8 : Ref sig .tc := ⟨.hbm, 1067, rfl⟩
abbrev main_call2_call5_c_1 : Ref sig .tc := ⟨.hbm, 1068, rfl⟩
abbrev main_call2_call5_v9 : Ref sig .tc := ⟨.hbm, 1069, rfl⟩
abbrev main_call2_call5_v10 : Ref sig .tc := ⟨.hbm, 1070, rfl⟩
abbrev main_call2_call5_v11 : Ref sig .tc := ⟨.hbm, 1071, rfl⟩
abbrev main_call2_call5_v12 : Ref sig .tc := ⟨.hbm, 1072, rfl⟩
abbrev main_call2_call5_v13 : Ref sig .tc := ⟨.hbm, 1073, rfl⟩
abbrev main_call2_call5_c_2 : Ref sig .tc := ⟨.hbm, 1074, rfl⟩
abbrev main_call2_call5_v14 : Ref sig .tc := ⟨.hbm, 1075, rfl⟩
abbrev main_call2_call5_v15 : Ref sig .tc := ⟨.hbm, 1076, rfl⟩
abbrev main_call2_call5_c_3 : Ref sig .tc := ⟨.hbm, 1077, rfl⟩
abbrev main_call2_call5_v16 : Ref sig .tc := ⟨.hbm, 1078, rfl⟩
abbrev main_call2_call5_v17 : Ref sig .tc := ⟨.hbm, 1079, rfl⟩
abbrev main_call2_call5_v18 : Ref sig .tc := ⟨.hbm, 1080, rfl⟩
abbrev main_call2_call5_v19 : Ref sig .tc := ⟨.hbm, 1081, rfl⟩
abbrev main_call2_call5_v20 : Ref sig .tc := ⟨.hbm, 1082, rfl⟩
abbrev main_call2_call5_c_4 : Ref sig .tc := ⟨.hbm, 1083, rfl⟩
abbrev main_call2_call5_v21 : Ref sig .tc := ⟨.hbm, 1084, rfl⟩
abbrev main_call2_call5_v22 : Ref sig .tc := ⟨.hbm, 1085, rfl⟩
abbrev main_call2_call5_c_5 : Ref sig .tc := ⟨.hbm, 1086, rfl⟩
abbrev main_call2_call5_v23 : Ref sig .tc := ⟨.hbm, 1087, rfl⟩
abbrev main_call2_call5_v24 : Ref sig .tc := ⟨.hbm, 1088, rfl⟩
abbrev main_call2_call5_v25 : Ref sig .tc := ⟨.hbm, 1089, rfl⟩
abbrev main_call2_call5_v26 : Ref sig .tc := ⟨.hbm, 1090, rfl⟩
abbrev main_call2_call5_v27 : Ref sig .tc := ⟨.hbm, 1091, rfl⟩
abbrev main_call2_call5_c_6 : Ref sig .tc := ⟨.hbm, 1092, rfl⟩
abbrev main_call2_call5_v28 : Ref sig .tc := ⟨.hbm, 1093, rfl⟩
abbrev main_call2_call5_v29 : Ref sig .tc := ⟨.hbm, 1094, rfl⟩
abbrev main_call2_call5_c_7 : Ref sig .tc := ⟨.hbm, 1095, rfl⟩
abbrev main_call2_call5_v30 : Ref sig .tc := ⟨.hbm, 1096, rfl⟩
abbrev main_call2_call5_v31 : Ref sig .tc := ⟨.hbm, 1097, rfl⟩
abbrev main_call2_call5_v32 : Ref sig .tc := ⟨.hbm, 1098, rfl⟩
abbrev main_call2_call5_v33 : Ref sig .tc := ⟨.hbm, 1099, rfl⟩
abbrev main_call2_call5_v34 : Ref sig .tc := ⟨.hbm, 1100, rfl⟩
abbrev main_call2_call5_v35 : Ref sig .tc := ⟨.hbm, 1101, rfl⟩
abbrev main_call2_call5_v36 : Ref sig .tc := ⟨.hbm, 1102, rfl⟩
abbrev main_call2_call5_v37 : Ref sig .tc := ⟨.hbm, 1103, rfl⟩
abbrev main_call2_call5_c_8 : Ref sig .tc := ⟨.hbm, 1104, rfl⟩
abbrev main_call2_call5_v38 : Ref sig .tc := ⟨.hbm, 1105, rfl⟩
abbrev main_call2_call5_v39 : Ref sig .tc := ⟨.hbm, 1106, rfl⟩
abbrev main_call2_call5_v40 : Ref sig .tc := ⟨.hbm, 1107, rfl⟩
abbrev main_call2_call5_c_9 : Ref sig .tc := ⟨.hbm, 1108, rfl⟩
abbrev main_call2_call5_v41 : Ref sig .tc := ⟨.hbm, 1109, rfl⟩
abbrev main_call2_call5_v42 : Ref sig .tc := ⟨.hbm, 1110, rfl⟩
abbrev main_call2_call5_c_10 : Ref sig .tc := ⟨.hbm, 1111, rfl⟩
abbrev main_call2_call5_v43 : Ref sig .tc := ⟨.hbm, 1112, rfl⟩
abbrev main_call2_call5_v44 : Ref sig .tc := ⟨.hbm, 1113, rfl⟩
abbrev main_call2_call5_v45 : Ref sig .tc := ⟨.hbm, 1114, rfl⟩
abbrev main_call2_call5_v46 : Ref sig .tc := ⟨.hbm, 1115, rfl⟩
abbrev main_call2_call5_v47 : Ref sig .tc := ⟨.hbm, 1116, rfl⟩
abbrev main_call2_call5_c_11 : Ref sig .tc := ⟨.hbm, 1117, rfl⟩
abbrev main_call2_call5_v48 : Ref sig .tc := ⟨.hbm, 1118, rfl⟩
abbrev main_call2_call5_v49 : Ref sig .tc := ⟨.hbm, 1119, rfl⟩
abbrev main_call2_call5_c_12 : Ref sig .tc := ⟨.hbm, 1120, rfl⟩
abbrev main_call2_call5_v50 : Ref sig .tc := ⟨.hbm, 1121, rfl⟩
abbrev main_call2_call5_v51 : Ref sig .tc := ⟨.hbm, 1122, rfl⟩
abbrev main_call2_call5_v52 : Ref sig .tc := ⟨.hbm, 1123, rfl⟩
abbrev main_call2_call5_v53 : Ref sig .tc := ⟨.hbm, 1124, rfl⟩
abbrev main_call2_call5_v54 : Ref sig .tc := ⟨.hbm, 1125, rfl⟩
abbrev main_call2_call5_c_13 : Ref sig .tc := ⟨.hbm, 1126, rfl⟩
abbrev main_call2_call5_v55 : Ref sig .tc := ⟨.hbm, 1127, rfl⟩
abbrev main_call2_call5_v56 : Ref sig .tc := ⟨.hbm, 1128, rfl⟩
abbrev main_call2_call5_c_14 : Ref sig .tc := ⟨.hbm, 1129, rfl⟩
abbrev main_call2_call5_v57 : Ref sig .tc := ⟨.hbm, 1130, rfl⟩
abbrev main_call2_call5_v58 : Ref sig .tc := ⟨.hbm, 1131, rfl⟩
abbrev main_call2_call5_v59 : Ref sig .tc := ⟨.hbm, 1132, rfl⟩
abbrev main_call2_call5_v60 : Ref sig .tc := ⟨.hbm, 1133, rfl⟩
abbrev main_call2_call5_v61 : Ref sig .tc := ⟨.hbm, 1134, rfl⟩
abbrev main_call2_call5_c_15 : Ref sig .tc := ⟨.hbm, 1135, rfl⟩
abbrev main_call2_call5_v62 : Ref sig .tc := ⟨.hbm, 1136, rfl⟩
abbrev main_call2_call5_v63 : Ref sig .tc := ⟨.hbm, 1137, rfl⟩
abbrev main_call2_call5_c_16 : Ref sig .tc := ⟨.hbm, 1138, rfl⟩
abbrev main_call2_call5_v64 : Ref sig .tc := ⟨.hbm, 1139, rfl⟩
abbrev main_call2_call5_v65 : Ref sig .tc := ⟨.hbm, 1140, rfl⟩
abbrev main_call2_call5_v66 : Ref sig .tc := ⟨.hbm, 1141, rfl⟩
abbrev main_call2_call5_v67 : Ref sig .tc := ⟨.hbm, 1142, rfl⟩
abbrev main_call2_call5_v68 : Ref sig .tc := ⟨.hbm, 1143, rfl⟩
abbrev main_call2_call5_v69 : Ref sig .tc := ⟨.hbm, 1144, rfl⟩
abbrev main_call2_call5_v70 : Ref sig .tc := ⟨.hbm, 1145, rfl⟩
abbrev main_call2_call5_v71 : Ref sig .tc := ⟨.hbm, 1146, rfl⟩
abbrev main_call2_call5_c_17 : Ref sig .tc := ⟨.hbm, 1147, rfl⟩
abbrev main_call2_call5_v72 : Ref sig .tc := ⟨.hbm, 1148, rfl⟩
abbrev main_call2_call5_v73 : Ref sig .tc := ⟨.hbm, 1149, rfl⟩
abbrev main_call2_call5_v74 : Ref sig .tc := ⟨.hbm, 1150, rfl⟩
abbrev main_call2_call5_c_18 : Ref sig .tc := ⟨.hbm, 1151, rfl⟩
abbrev main_call2_call5_v75 : Ref sig .tc := ⟨.hbm, 1152, rfl⟩
abbrev main_call2_call5_v76 : Ref sig .tc := ⟨.hbm, 1153, rfl⟩
abbrev main_call2_call5_c_19 : Ref sig .tc := ⟨.hbm, 1154, rfl⟩
abbrev main_call2_call5_v77 : Ref sig .tc := ⟨.hbm, 1155, rfl⟩
abbrev main_call2_call5_v78 : Ref sig .tc := ⟨.hbm, 1156, rfl⟩
abbrev main_call2_call5_v79 : Ref sig .tc := ⟨.hbm, 1157, rfl⟩
abbrev main_call2_call5_v80 : Ref sig .tc := ⟨.hbm, 1158, rfl⟩
abbrev main_call2_call5_v81 : Ref sig .tc := ⟨.hbm, 1159, rfl⟩
abbrev main_call2_call5_c_20 : Ref sig .tc := ⟨.hbm, 1160, rfl⟩
abbrev main_call2_call5_v82 : Ref sig .tc := ⟨.hbm, 1161, rfl⟩
abbrev main_call2_call5_v83 : Ref sig .tc := ⟨.hbm, 1162, rfl⟩
abbrev main_call2_call5_c_21 : Ref sig .tc := ⟨.hbm, 1163, rfl⟩
abbrev main_call2_call5_v84 : Ref sig .tc := ⟨.hbm, 1164, rfl⟩
abbrev main_call2_call5_v85 : Ref sig .tc := ⟨.hbm, 1165, rfl⟩
abbrev main_call2_call5_v86 : Ref sig .tc := ⟨.hbm, 1166, rfl⟩
abbrev main_call2_call5_v87 : Ref sig .tc := ⟨.hbm, 1167, rfl⟩
abbrev main_call2_call5_v88 : Ref sig .tc := ⟨.hbm, 1168, rfl⟩
abbrev main_call2_call5_c_22 : Ref sig .tc := ⟨.hbm, 1169, rfl⟩
abbrev main_call2_call5_v89 : Ref sig .tc := ⟨.hbm, 1170, rfl⟩
abbrev main_call2_call5_v90 : Ref sig .tc := ⟨.hbm, 1171, rfl⟩
abbrev main_call2_call5_c_23 : Ref sig .tc := ⟨.hbm, 1172, rfl⟩
abbrev main_call2_call5_v91 : Ref sig .tc := ⟨.hbm, 1173, rfl⟩
abbrev main_call2_call5_v92 : Ref sig .tc := ⟨.hbm, 1174, rfl⟩
abbrev main_call2_call5_v93 : Ref sig .tc := ⟨.hbm, 1175, rfl⟩
abbrev main_call2_call5_v94 : Ref sig .tc := ⟨.hbm, 1176, rfl⟩
abbrev main_call2_call5_v95 : Ref sig .tc := ⟨.hbm, 1177, rfl⟩
abbrev main_call2_call5_c_24 : Ref sig .tc := ⟨.hbm, 1178, rfl⟩
abbrev main_call2_call5_v96 : Ref sig .tc := ⟨.hbm, 1179, rfl⟩
abbrev main_call2_call5_v97 : Ref sig .tc := ⟨.hbm, 1180, rfl⟩
abbrev main_call2_call5_c_25 : Ref sig .tc := ⟨.hbm, 1181, rfl⟩
abbrev main_call2_call5_v98 : Ref sig .tc := ⟨.hbm, 1182, rfl⟩
abbrev main_call2_call5_v99 : Ref sig .tc := ⟨.hbm, 1183, rfl⟩
abbrev main_call2_call5_v100 : Ref sig .tc := ⟨.hbm, 1184, rfl⟩
abbrev main_call2_call5_v101 : Ref sig .tc := ⟨.hbm, 1185, rfl⟩
abbrev main_call2_call5_v102 : Ref sig .tc := ⟨.hbm, 1186, rfl⟩
abbrev main_call2_call5_v103 : Ref sig .tc := ⟨.hbm, 1187, rfl⟩
abbrev main_call2_call5_v104 : Ref sig .tc := ⟨.hbm, 1188, rfl⟩
abbrev main_call2_call5_v105 : Ref sig .tc := ⟨.hbm, 1189, rfl⟩
abbrev main_call2_call5_c_26 : Ref sig .tc := ⟨.hbm, 1190, rfl⟩
abbrev main_call2_call5_v106 : Ref sig .tc := ⟨.hbm, 1191, rfl⟩
abbrev main_call2_call5_v107 : Ref sig .tc := ⟨.hbm, 1192, rfl⟩
abbrev main_call2_call5_v108 : Ref sig .tc := ⟨.hbm, 1193, rfl⟩
abbrev main_call2_call5_c_27 : Ref sig .tc := ⟨.hbm, 1194, rfl⟩
abbrev main_call2_call5_v109 : Ref sig .tc := ⟨.hbm, 1195, rfl⟩
abbrev main_call2_call5_v110 : Ref sig .tc := ⟨.hbm, 1196, rfl⟩
abbrev main_call2_call5_c_28 : Ref sig .tc := ⟨.hbm, 1197, rfl⟩
abbrev main_call2_call5_v111 : Ref sig .tc := ⟨.hbm, 1198, rfl⟩
abbrev main_call2_call5_v112 : Ref sig .tc := ⟨.hbm, 1199, rfl⟩
abbrev main_call2_call5_v113 : Ref sig .tc := ⟨.hbm, 1200, rfl⟩
abbrev main_call2_call5_v114 : Ref sig .tc := ⟨.hbm, 1201, rfl⟩
abbrev main_call2_call5_v115 : Ref sig .tc := ⟨.hbm, 1202, rfl⟩
abbrev main_call2_call5_c_29 : Ref sig .tc := ⟨.hbm, 1203, rfl⟩
abbrev main_call2_call5_v116 : Ref sig .tc := ⟨.hbm, 1204, rfl⟩
abbrev main_call2_call5_v117 : Ref sig .tc := ⟨.hbm, 1205, rfl⟩
abbrev main_call2_call5_c_30 : Ref sig .tc := ⟨.hbm, 1206, rfl⟩
abbrev main_call2_call5_v118 : Ref sig .tc := ⟨.hbm, 1207, rfl⟩
abbrev main_call2_call5_v119 : Ref sig .tc := ⟨.hbm, 1208, rfl⟩
abbrev main_call2_call5_v120 : Ref sig .tc := ⟨.hbm, 1209, rfl⟩
abbrev main_call2_call5_v121 : Ref sig .tc := ⟨.hbm, 1210, rfl⟩
abbrev main_call2_call5_v122 : Ref sig .tc := ⟨.hbm, 1211, rfl⟩
abbrev main_call2_call5_c_31 : Ref sig .tc := ⟨.hbm, 1212, rfl⟩
abbrev main_call2_call5_v123 : Ref sig .tc := ⟨.hbm, 1213, rfl⟩
abbrev main_call2_call5_v124 : Ref sig .tc := ⟨.hbm, 1214, rfl⟩
abbrev main_call2_call5_c_32 : Ref sig .tc := ⟨.hbm, 1215, rfl⟩
abbrev main_call2_call5_v125 : Ref sig .tc := ⟨.hbm, 1216, rfl⟩
abbrev main_call2_call5_v126 : Ref sig .tc := ⟨.hbm, 1217, rfl⟩
abbrev main_call2_call5_v127 : Ref sig .tc := ⟨.hbm, 1218, rfl⟩
abbrev main_call2_call5_v128 : Ref sig .tc := ⟨.hbm, 1219, rfl⟩
abbrev main_call2_call5_v129 : Ref sig .tc := ⟨.hbm, 1220, rfl⟩
abbrev main_call2_call5_c_33 : Ref sig .tc := ⟨.hbm, 1221, rfl⟩
abbrev main_call2_call5_v130 : Ref sig .tc := ⟨.hbm, 1222, rfl⟩
abbrev main_call2_call5_v131 : Ref sig .tc := ⟨.hbm, 1223, rfl⟩
abbrev main_call2_call5_c_34 : Ref sig .tc := ⟨.hbm, 1224, rfl⟩
abbrev main_call2_call5_v132 : Ref sig .tc := ⟨.hbm, 1225, rfl⟩
abbrev main_call2_call5_v133 : Ref sig .tc := ⟨.hbm, 1226, rfl⟩
abbrev main_call2_call5_v134 : Ref sig .tc := ⟨.hbm, 1227, rfl⟩
abbrev main_call2_call5_v135 : Ref sig .tc := ⟨.hbm, 1228, rfl⟩
abbrev main_call2_call5_v136 : Ref sig .tc := ⟨.hbm, 1229, rfl⟩
abbrev main_call2_call5_v137 : Ref sig .tc := ⟨.hbm, 1230, rfl⟩
abbrev main_call2_call5_v138 : Ref sig .tc := ⟨.hbm, 1231, rfl⟩
abbrev main_call2_call5_v139 : Ref sig .tc := ⟨.hbm, 1232, rfl⟩
abbrev main_call2_call5_c_35 : Ref sig .tc := ⟨.hbm, 1233, rfl⟩
abbrev main_call2_call5_v140 : Ref sig .tc := ⟨.hbm, 1234, rfl⟩
abbrev main_call2_call5_v141 : Ref sig .tc := ⟨.hbm, 1235, rfl⟩
abbrev main_call2_call5_v142 : Ref sig .tc := ⟨.hbm, 1236, rfl⟩
abbrev main_call2_call5_c_36 : Ref sig .tc := ⟨.hbm, 1237, rfl⟩
abbrev main_call2_call5_v143 : Ref sig .tc := ⟨.hbm, 1238, rfl⟩
abbrev main_call2_call5_v144 : Ref sig .tc := ⟨.hbm, 1239, rfl⟩
abbrev main_call2_call5_c_37 : Ref sig .tc := ⟨.hbm, 1240, rfl⟩
abbrev main_call2_call5_v145 : Ref sig .tc := ⟨.hbm, 1241, rfl⟩
abbrev main_call2_call5_v146 : Ref sig .tc := ⟨.hbm, 1242, rfl⟩
abbrev main_call2_call5_v147 : Ref sig .tc := ⟨.hbm, 1243, rfl⟩
abbrev main_call2_call5_v148 : Ref sig .tc := ⟨.hbm, 1244, rfl⟩
abbrev main_call2_call5_v149 : Ref sig .tc := ⟨.hbm, 1245, rfl⟩
abbrev main_call2_call5_c_38 : Ref sig .tc := ⟨.hbm, 1246, rfl⟩
abbrev main_call2_call5_v150 : Ref sig .tc := ⟨.hbm, 1247, rfl⟩
abbrev main_call2_call5_v151 : Ref sig .tc := ⟨.hbm, 1248, rfl⟩
abbrev main_call2_call5_c_39 : Ref sig .tc := ⟨.hbm, 1249, rfl⟩
abbrev main_call2_call5_v152 : Ref sig .tc := ⟨.hbm, 1250, rfl⟩
abbrev main_call2_call5_v153 : Ref sig .tc := ⟨.hbm, 1251, rfl⟩
abbrev main_call2_call5_v154 : Ref sig .tc := ⟨.hbm, 1252, rfl⟩
abbrev main_call2_call5_v155 : Ref sig .tc := ⟨.hbm, 1253, rfl⟩
abbrev main_call2_call5_v156 : Ref sig .tc := ⟨.hbm, 1254, rfl⟩
abbrev main_call2_call5_c_40 : Ref sig .tc := ⟨.hbm, 1255, rfl⟩
abbrev main_call2_call5_v157 : Ref sig .tc := ⟨.hbm, 1256, rfl⟩
abbrev main_call2_call5_v158 : Ref sig .tc := ⟨.hbm, 1257, rfl⟩
abbrev main_call2_call5_c_41 : Ref sig .tc := ⟨.hbm, 1258, rfl⟩
abbrev main_call2_call5_v159 : Ref sig .tc := ⟨.hbm, 1259, rfl⟩
abbrev main_call2_call5_v160 : Ref sig .tc := ⟨.hbm, 1260, rfl⟩
abbrev main_call2_call5_v161 : Ref sig .tc := ⟨.hbm, 1261, rfl⟩
abbrev main_call2_call5_v162 : Ref sig .tc := ⟨.hbm, 1262, rfl⟩
abbrev main_call2_call5_v163 : Ref sig .tc := ⟨.hbm, 1263, rfl⟩
abbrev main_call2_call5_c_42 : Ref sig .tc := ⟨.hbm, 1264, rfl⟩
abbrev main_call2_call5_v164 : Ref sig .tc := ⟨.hbm, 1265, rfl⟩
abbrev main_call2_call5_v165 : Ref sig .tc := ⟨.hbm, 1266, rfl⟩
abbrev main_call2_call5_c_43 : Ref sig .tc := ⟨.hbm, 1267, rfl⟩
abbrev main_call2_call5_v166 : Ref sig .tc := ⟨.hbm, 1268, rfl⟩
abbrev main_call2_call5_v167 : Ref sig .tc := ⟨.hbm, 1269, rfl⟩
abbrev main_call2_call5_v168 : Ref sig .tc := ⟨.hbm, 1270, rfl⟩
abbrev main_call2_call5_v169 : Ref sig .tc := ⟨.hbm, 1271, rfl⟩
abbrev main_call2_call5_v170 : Ref sig .tc := ⟨.hbm, 1272, rfl⟩
abbrev main_call2_v53_0 : Ref sig .tc := ⟨.hbm, 1273, rfl⟩
abbrev main_call2_call5_v172 : Ref sig .tc := ⟨.hbm, 1274, rfl⟩
abbrev main_call2_call5_v173 : Ref sig .tc := ⟨.hbm, 1275, rfl⟩
abbrev main_call2_call5_c_44 : Ref sig .tc := ⟨.hbm, 1276, rfl⟩
abbrev main_call2_call5_v174 : Ref sig .tc := ⟨.hbm, 1277, rfl⟩
abbrev main_call2_v53_1 : Ref sig .tc := ⟨.hbm, 1278, rfl⟩
abbrev main_call2_v54 : Ref sig .tc := ⟨.hbm, 1279, rfl⟩
abbrev main_call2_v55 : Ref sig .tc := ⟨.hbm, 1280, rfl⟩
abbrev main_call2_v56 : Ref sig .tc := ⟨.hbm, 1281, rfl⟩
abbrev main_call2_v57 : Ref sig .tc := ⟨.hbm, 1282, rfl⟩
abbrev main_call2_c_14 : Ref sig .tc := ⟨.hbm, 1283, rfl⟩
abbrev main_call2_v58 : Ref sig .tc := ⟨.hbm, 1284, rfl⟩
abbrev main_call2_v59 : Ref sig .tc := ⟨.hbm, 1285, rfl⟩
abbrev main_call2_v60 : Ref sig .tc := ⟨.hbm, 1286, rfl⟩
abbrev main_call2_v61 : Ref sig .tc := ⟨.hbm, 1287, rfl⟩
abbrev main_call2_v62 : Ref sig .tc := ⟨.hbm, 1288, rfl⟩
abbrev main_call2_c_15 : Ref sig .tc := ⟨.hbm, 1289, rfl⟩
abbrev main_call2_v63 : Ref sig .tc := ⟨.hbm, 1290, rfl⟩
abbrev main_call2_v64 : Ref sig .tc := ⟨.hbm, 1291, rfl⟩
abbrev main_call2_v65 : Ref sig .tc := ⟨.hbm, 1292, rfl⟩
abbrev main_call2_c_16 : Ref sig .tc := ⟨.hbm, 1293, rfl⟩
abbrev main_call2_v66 : Ref sig .tc := ⟨.hbm, 1294, rfl⟩
abbrev main_call2_v67 : Ref sig .tc := ⟨.hbm, 1295, rfl⟩
abbrev main_call2_v68 : Ref sig .tc := ⟨.hbm, 1296, rfl⟩
abbrev main_call2_v69 : Ref sig .tc := ⟨.hbm, 1297, rfl⟩
abbrev main_call2_v70 : Ref sig .tc := ⟨.hbm, 1298, rfl⟩
abbrev main_call2_v71 : Ref sig .tc := ⟨.hbm, 1299, rfl⟩
abbrev main_call2_v72 : Ref sig .tc := ⟨.hbm, 1300, rfl⟩
abbrev main_call2_v73 : Ref sig .tc := ⟨.hbm, 1301, rfl⟩
abbrev main_call2_v74 : Ref sig .tc := ⟨.hbm, 1302, rfl⟩
abbrev main_call2_v75 : Ref sig .tc := ⟨.hbm, 1303, rfl⟩
abbrev main_call2_v76 : Ref sig .tc := ⟨.hbm, 1304, rfl⟩
abbrev main_call2_v77 : Ref sig .tc := ⟨.hbm, 1305, rfl⟩
abbrev main_call2_v78 : Ref sig .tc := ⟨.hbm, 1306, rfl⟩
abbrev main_call2_v79 : Ref sig .tc := ⟨.hbm, 1307, rfl⟩
abbrev main_call2_v80 : Ref sig .tc := ⟨.hbm, 1308, rfl⟩
abbrev main_v14 : Ref sig .tc := ⟨.hbm, 1309, rfl⟩
abbrev main_v15 : Ref sig .tc := ⟨.hbm, 1310, rfl⟩
abbrev main_c_4 : Ref sig .tc := ⟨.hbm, 1311, rfl⟩
abbrev main_v16 : Ref sig .tc := ⟨.hbm, 1312, rfl⟩
abbrev main_v17 : Ref sig .tc := ⟨.hbm, 1313, rfl⟩
abbrev main_v18 : Ref sig .tc := ⟨.hbm, 1314, rfl⟩
abbrev main_v19 : Ref sig .tc := ⟨.hbm, 1315, rfl⟩
abbrev main_v20 : Ref sig .tc := ⟨.hbm, 1316, rfl⟩
abbrev main_cst_5 : Ref sig .tc := ⟨.hbm, 1317, rfl⟩

abbrev nD : Nat := 1
abbrev τ : Topo := Topo.v7x

variable {F : FTy → Type} [FloatOps F]
-- ==== Proof.Line.lean ====
/- Straight lines of host operations read through ONE valuation: where every operation writes a buffer of higher number than all
   it reads and than all written before it, the final contents satisfy every operation's equation at once. -/
module

public import Idealize.ShloMosaic.Lib.StableHlo.RunHlo

@[expose] public section

noncomputable section

namespace Cert.Line

open Idealize.ShloMosaic Idealize.ShloMosaic.StableHlo Idealize.SL.Sem

variable {nD : Nat} {τ : Topo} {sig : RefSig} {Val : EltTy → Type} {Λ : Labels}

/-! ## One operation -/

/-- `op` writes `y` alone, determines it, and computes it from the contents of `xs` alone. -/
structure Reads (op : HloOp τ sig Val) (xs : List (Ref sig .tc)) (y : Ref sig .tc) : Prop where
  writes : op.writes = {Proc.devRef .tc y}
  fresh : op.fresh = ∅
  bufs : op.bufs ⊆ tcRefs τ sig
  only : ∀ F G : Valuation τ sig Val, (∀ x ∈ xs, F (Proc.devRef .tc x) = G (Proc.devRef .tc x)) →
    op.result F (Proc.devRef .tc y) = op.result G (Proc.devRef .tc y)

section Builders

variable {x a b c y : Ref sig .tc}

/-- A constant reads nothing. -/
theorem reads_nullary (v : y.ty.Contents Val) (hy) : Reads (nullary (τ := τ) y v hy) [] y :=
  ⟨rfl, rfl, nullary_bufs_sub _ _ _, fun F G _ => by rw [nullary_result, nullary_result]⟩

/-- A one-operand operation reads its operand. -/
theorem reads_unary (f : x.ty.Contents Val → y.ty.Contents Val) (hx hy) : Reads (unary (τ := τ) x y f hx hy) [x] y :=
  ⟨rfl, rfl, unary_bufs_sub _ _ _ _ _, fun F G h => by
    rw [unary_result, unary_result, h x (by simp)]⟩

/-- A reshape reads its operand. -/
theorem reads_reshape (he hn hx hy) : Reads (reshape (τ := τ) (Val := Val) x y he hn hx hy) [x] y :=
  ⟨rfl, rfl, reshape_bufs_sub _ _ _ _ _ _, fun F G h => by
    rw [reshape_result, reshape_result, h x (by simp)]⟩

/-- A two-operand operation reads its operands. -/
theorem reads_binary (f : a.ty.Contents Val → b.ty.Contents Val → y.ty.Contents Val) (ha hb hy) :
    Reads (binary (τ := τ) a b y f ha hb hy) [a, b] y :=
  ⟨rfl, rfl, binary_bufs_sub _ _ _ _ _ _ _, fun F G h => by
    rw [binary_result, binary_result, h a (by simp), h b (by simp)]⟩

/-- A three-operand operation reads its operands. -/
theorem reads_ternary (f : c.ty.Contents Val → a.ty.Contents Val → b.ty.Contents Val → y.ty.Contents Val) (hc ha hb hy) :
    Reads (ternary (τ := τ) c a b y f hc ha hb hy) [c, a, b] y :=
  ⟨rfl, rfl, ternary_bufs_sub _ _ _ _ _ _ _ _ _, fun F G h => by
    rw [ternary_result, ternary_result, h a (by simp), h b (by simp), h c (by simp)]⟩

end Builders

/-! ## A line -/

/-- Each operation of the line with the references it reads and the one it writes. -/
inductive Desc : List (HloOp τ sig Val) → List (List (Ref sig .tc) × Ref sig .tc) → Prop
  | nil : Desc [] []
  | cons {op ops xs y D} (h : Reads op xs y) (t : Desc ops D) : Desc (op :: ops) ((xs, y) :: D)

theorem Desc.append {l₁ l₂ : List (HloOp τ sig Val)} {D₁ D₂} (h₁ : Desc l₁ D₁) (h₂ : Desc l₂ D₂) :
    Desc (l₁ ++ l₂) (D₁ ++ D₂) := by
  induction h₁ with
  | nil => exact h₂
  | cons h _ ih => exact .cons h ih

/-- The number of a reference among the buffers of its space. -/
def rank (r : Ref sig .tc) : Nat := r.idx.val

/-- The line writes buffers of rising number, none below `n`, and each operation reads only buffers of lower number than the one
    it writes. -/
def ordered : Nat → List (List (Ref sig .tc) × Ref sig .tc) → Bool
  | _, [] => true
  | n, (xs, y) :: D => Nat.ble n (rank y) && (xs.all fun x => Nat.blt (rank x) (rank y)) && ordered (rank y + 1) D

/-- The line leaves every buffer of number below `n` as it was. -/
theorem after_keep {ops : List (HloOp τ sig Val)} {D} (h : Desc ops D) : ∀ (n : Nat) (_ : ordered n D = true)
    (V : Valuation τ sig Val) (r : Ref sig .tc), rank r < n → after ops V (Proc.devRef .tc r) = V (Proc.devRef .tc r) := by
  induction h with
  | nil => intros; rfl
  | @cons op ops xs y D h t ih =>
    intro n ho V r hr
    simp only [ordered, Bool.and_eq_true, Nat.ble_eq] at ho
    obtain ⟨⟨h1, -⟩, h3⟩ := ho
    rw [after_cons, ih _ h3 _ r (by omega)]
    exact result_of_writes_ne op V y r h.writes (by rintro rfl; omega)

/-- `W` satisfies the equation of every operation of the line. -/
def Fix (W : Valuation τ sig Val) (ops : List (HloOp τ sig Val)) : Prop := ∀ op ∈ ops, op.result W = W

/-- The contents that an ordered line leaves satisfy the equations of all its operations. -/
theorem after_fix {ops : List (HloOp τ sig Val)} {D} (h : Desc ops D) : ∀ (n : Nat) (_ : ordered n D = true)
    (V : Valuation τ sig Val), Fix (after ops V) ops := by
  induction h with
  | nil => intro _ _ _ op hop; cases hop
  | @cons op ops xs y D h t ih =>
    intro n ho V op' hop
    simp only [ordered, Bool.and_eq_true, Nat.ble_eq, List.all_eq_true, Nat.blt_eq] at ho
    obtain ⟨⟨h1, h2⟩, h3⟩ := ho
    rcases List.mem_cons.mp hop with rfl | hop
    · rw [after_cons]
      funext b
      by_cases hb : b ∈ op'.writes
      · have hb' := hb
        rw [h.writes, Finset.mem_singleton] at hb'
        subst hb'
        rw [after_keep t _ h3 _ y (by omega)]
        refine h.only _ _ fun x hx => ?_
        have := h2 x hx
        rw [after_keep t _ h3 _ x (by omega)]
        exact result_of_writes_ne op' V y x h.writes (by rintro rfl; omega)
      · exact op'.result_of_not_mem _ hb
    · exact ih _ h3 _ op' hop

@[simp] theorem fix_nil (W : Valuation τ sig Val) : Fix W [] ↔ True := by simp [Fix]
@[simp] theorem fix_cons (W : Valuation τ sig Val) (op) (ops) : Fix W (op :: ops) ↔ op.result W = W ∧ Fix W ops := by
  simp [Fix]
@[simp] theorem fix_append (W : Valuation τ sig Val) (l₁ l₂) : Fix W (l₁ ++ l₂) ↔ Fix W l₁ ∧ Fix W l₂ := by
  simp [Fix, or_imp, forall_and]

/-! ## A program's line -/

/-- Two straight lines in a row are one. -/
theorem isSeq_append {p k : Prog (TpuEff nD τ sig Val Λ .tc) PUnit} {l₁ l₂ : List (HloOp τ sig Val)}
    (h₁ : IsSeq p l₁) (h₂ : IsSeq k l₂) : IsSeq (p >>= fun _ => k) (l₁ ++ l₂) := by
  unfold IsSeq at h₁ h₂ ⊢
  subst h₁ h₂
  exact (seq_append l₁ l₂).symm

/-- The operations of a straight-line program, and what each reads and writes. -/
structure Code (p : Prog (TpuEff nD τ sig Val Λ .tc) PUnit) where
  ops : List (HloOp τ sig Val)
  desc : List (List (Ref sig .tc) × Ref sig .tc)
  isSeq : IsSeq p ops
  reads : Desc ops desc

/-- The empty program's. -/
@[reducible] def Code.nil : Code (nD := nD) (τ := τ) (sig := sig) (Val := Val) (Λ := Λ) (pure ⟨⟩) := ⟨[], [], .nil, .nil⟩

/-- One operation before a program. -/
@[reducible] def Code.cons {op : HloOp τ sig Val} {xs y} {k : Prog (TpuEff nD τ sig Val Λ .tc) PUnit} (h : Reads op xs y) (t : Code k) :
    Code ((hlo rfl op fun _ => .ret (⟨⟩ : PUnit)) >>= fun _ => k) :=
  ⟨op :: t.ops, (xs, y) :: t.desc, .cons t.isSeq, .cons h t.reads⟩

/-- One operation alone. -/
@[reducible] def Code.last {op : HloOp τ sig Val} {xs y} (h : Reads op xs y) :
    Code (nD := nD) (Λ := Λ) (hlo rfl op fun _ => .ret (⟨⟩ : PUnit)) :=
  ⟨[op], [(xs, y)], rfl, .cons h .nil⟩

/-- One program before another. -/
@[reducible] def Code.bind {p k : Prog (TpuEff nD τ sig Val Λ .tc) PUnit} (c : Code p) (t : Code k) : Code (p >>= fun _ => k) :=
  ⟨c.ops ++ t.ops, c.desc ++ t.desc, isSeq_append c.isSeq t.isSeq, c.reads.append t.reads⟩

/-- A program's line is that of what it unfolds to. -/
@[reducible] def Code.of {p k : Prog (TpuEff nD τ sig Val Λ .tc) PUnit} (e : p = k) (t : Code k) : Code p :=
  ⟨t.ops, t.desc, e ▸ t.isSeq, t.reads⟩

/-- Every operation of a described line touches TensorCore references only. -/
theorem Desc.sub {ops : List (HloOp τ sig Val)} {D} (h : Desc ops D) : ops.Forall fun op => op.bufs ⊆ tcRefs τ sig := by
  rw [List.forall_iff_forall_mem]
  induction h with
  | nil => intro op hop; cases hop
  | cons h _ ih =>
    intro op hop
    rcases List.mem_cons.mp hop with rfl | hop
    · exact h.bufs
    · exact ih op hop

/-- And allocates nothing. -/
theorem Desc.fresh {ops : List (HloOp τ sig Val)} {D} (h : Desc ops D) : ∀ op ∈ ops, op.fresh = ∅ := by
  induction h with
  | nil => intro op hop; cases hop
  | cons h _ ih =>
    intro op hop
    rcases List.mem_cons.mp hop with rfl | hop
    · exact h.fresh
    · exact ih op hop

/-! ## The equations, at typed references -/

variable {T Tx Ta Tb Tc Ty : BufTy}

/-- The contents of a typed reference's buffer. -/
def rd (W : Valuation τ sig Val) (x : TRef sig T) : T.Contents Val := x.ofBuf (W (Proc.devRef .tc x.ref))

theorem rd_of (W : Valuation τ sig Val) (r : Ref sig .tc) (hd hu) :
    rd W (⟨r, rfl, hd, hu⟩ : TRef sig r.ty) = W (Proc.devRef .tc r) := rfl

theorem eq_nullary {W : Valuation τ sig Val} {y : TRef sig Ty} {v : Ty.Contents Val}
    (h : (TRef.nullary (τ := τ) y v).result W = W) : rd W y = v := by
  have e := congrFun h (Proc.devRef .tc y.ref)
  rw [nullary_result] at e
  rw [rd, ← e, TRef.ofBuf_toBuf]

theorem eq_unary {W : Valuation τ sig Val} {x : TRef sig Tx} {y : TRef sig Ty} {f : Tx.Contents Val → Ty.Contents Val}
    (h : (TRef.unary (τ := τ) x y f).result W = W) : rd W y = f (rd W x) := by
  have e := congrFun h (Proc.devRef .tc y.ref)
  rw [unary_result] at e
  rw [rd, ← e, TRef.ofBuf_toBuf]; rfl

theorem eq_binary {W : Valuation τ sig Val} {a : TRef sig Ta} {b : TRef sig Tb} {y : TRef sig Ty}
    {f : Ta.Contents Val → Tb.Contents Val → Ty.Contents Val}
    (h : (TRef.binary (τ := τ) a b y f).result W = W) : rd W y = f (rd W a) (rd W b) := by
  have e := congrFun h (Proc.devRef .tc y.ref)
  rw [binary_result] at e
  rw [rd, ← e, TRef.ofBuf_toBuf]; rfl

theorem eq_ternary {W : Valuation τ sig Val} {c : TRef sig Tc} {a : TRef sig Ta} {b : TRef sig Tb} {y : TRef sig Ty}
    {f : Tc.Contents Val → Ta.Contents Val → Tb.Contents Val → Ty.Contents Val}
    (h : (TRef.ternary (τ := τ) c a b y f).result W = W) : rd W y = f (rd W c) (rd W a) (rd W b) := by
  have e := congrFun h (Proc.devRef .tc y.ref)
  rw [ternary_result] at e
  rw [rd, ← e, TRef.ofBuf_toBuf]; rfl

theorem eq_reshape {W : Valuation τ sig Val} {x : TRef sig Tx} {y : TRef sig Ty} {he : Tx.elt = Ty.elt}
    {hn : Tx.shape.ShapeCasts Ty.shape} (h : (TRef.reshape (τ := τ) (Val := Val) x y he hn).result W = W) :
    rd W y = fun i => he ▸ shapeCast Ty.shape (rd W x) hn i := by
  obtain ⟨x, rfl, hx, hx'⟩ := x
  obtain ⟨y, rfl, hy, hy'⟩ := y
  have e := congrFun h (Proc.devRef .tc y)
  unfold TRef.reshape at e
  rw [reshape_result] at e
  exact e.symm

/-! ## One operation off the front of a line's equations -/

theorem Fix.nullary {W : Valuation τ sig Val} {y : TRef sig Ty} {v : Ty.Contents Val} {ops}
    (h : Fix W (TRef.nullary y v :: ops)) : rd W y = v ∧ Fix W ops :=
  ⟨eq_nullary ((fix_cons ..).mp h).1, ((fix_cons ..).mp h).2⟩

theorem Fix.unary {W : Valuation τ sig Val} {x : TRef sig Tx} {y : TRef sig Ty} {f : Tx.Contents Val → Ty.Contents Val} {ops}
    (h : Fix W (TRef.unary x y f :: ops)) : rd W y = f (rd W x) ∧ Fix W ops :=
  ⟨eq_unary ((fix_cons ..).mp h).1, ((fix_cons ..).mp h).2⟩

theorem Fix.binary {W : Valuation τ sig Val} {a : TRef sig Ta} {b : TRef sig Tb} {y : TRef sig Ty}
    {f : Ta.Contents Val → Tb.Contents Val → Ty.Contents Val} {ops}
    (h : Fix W (TRef.binary a b y f :: ops)) : rd W y = f (rd W a) (rd W b) ∧ Fix W ops :=
  ⟨eq_binary ((fix_cons ..).mp h).1, ((fix_cons ..).mp h).2⟩

theorem Fix.ternary {W : Valuation τ sig Val} {c : TRef sig Tc} {a : TRef sig Ta} {b : TRef sig Tb} {y : TRef sig Ty}
    {f : Tc.Contents Val → Ta.Contents Val → Tb.Contents Val → Ty.Contents Val} {ops}
    (h : Fix W (TRef.ternary c a b y f :: ops)) : rd W y = f (rd W c) (rd W a) (rd W b) ∧ Fix W ops :=
  ⟨eq_ternary ((fix_cons ..).mp h).1, ((fix_cons ..).mp h).2⟩

theorem Fix.reshape {W : Valuation τ sig Val} {x : TRef sig Tx} {y : TRef sig Ty} {he : Tx.elt = Ty.elt}
    {hn : Tx.shape.ShapeCasts Ty.shape} {ops} (h : Fix W (TRef.reshape (Val := Val) x y he hn :: ops)) :
    (rd W y = fun i => he ▸ shapeCast Ty.shape (rd W x) hn i) ∧ Fix W ops :=
  ⟨eq_reshape ((fix_cons ..).mp h).1, ((fix_cons ..).mp h).2⟩

/-! ## The same, at bare references -/

section Bare

variable {W : Valuation τ sig Val} {x a b y : Ref sig .tc} {ops : List (HloOp τ sig Val)}

theorem Fix.bare_nullary {v : y.ty.Contents Val} {hy} (h : Fix W (StableHlo.nullary y v hy :: ops)) :
    W (Proc.devRef .tc y) = v ∧ Fix W ops :=
  ⟨by
    have e := congrFun ((fix_cons ..).mp h).1 (Proc.devRef .tc y)
    rw [nullary_result] at e
    exact e.symm, ((fix_cons ..).mp h).2⟩

theorem Fix.bare_unary {f : x.ty.Contents Val → y.ty.Contents Val} {hx hy} (h : Fix W (StableHlo.unary x y f hx hy :: ops)) :
    W (Proc.devRef .tc y) = f (W (Proc.devRef .tc x)) ∧ Fix W ops :=
  ⟨by
    have e := congrFun ((fix_cons ..).mp h).1 (Proc.devRef .tc y)
    rw [unary_result] at e
    exact e.symm, ((fix_cons ..).mp h).2⟩

theorem Fix.bare_binary {f : a.ty.Contents Val → b.ty.Contents Val → y.ty.Contents Val} {ha hb hy}
    (h : Fix W (StableHlo.binary a b y f ha hb hy :: ops)) :
    W (Proc.devRef .tc y) = f (W (Proc.devRef .tc a)) (W (Proc.devRef .tc b)) ∧ Fix W ops :=
  ⟨by
    have e := congrFun ((fix_cons ..).mp h).1 (Proc.devRef .tc y)
    rw [binary_result] at e
    exact e.symm, ((fix_cons ..).mp h).2⟩

end Bare

/-! ## Its run -/

/-- A program of an ordered line, on a signature that scopes nothing, runs to contents that satisfy every equation of the line and
    that agree with the launch on every buffer of number below `n`; the counters end at zero where `hq` says so. -/
theorem run_line (defs : Defs nD τ sig Val Λ) (main : Dev nD → Prog (TpuEff nD τ sig Val Λ .tc) PUnit)
    (c : (d : Dev nD) → Code (main d)) {ops : List (HloOp τ sig Val)} {D} (hops : ∀ d, (c d).ops = ops) (hD : Desc ops D)
    (n : Nat) (ho : ordered n D = true)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ d : Dev nD, ∃ W : Valuation τ sig Val, Fix W ops
        ∧ (∀ b : Ref sig .tc, r.2.mem ((d.tc : Thread nD τ).loc b) = W (Proc.devRef .tc b))
        ∧ (∀ b : Ref sig .tc, rank b < n → W (Proc.devRef .tc b) = m ((d.tc : Thread nD τ).loc b)) :=
  θ_run_mono (run_hlo defs main (fun d => hops d ▸ (c d).isSeq) hR hC hD.sub hD.fresh m ρ) fun r h d =>
    ⟨after ops (launchContents m d), after_fix hD n ho _, fun b => h d b, fun b hb => after_keep hD n ho _ b hb⟩

end Cert.Line

end
-- ==== Proof.RefCode.lean ====
/- The reference's operations, function by function, read off the printed program. -/
module

public import proofs.«01_k».proof.Proof.Gen.ReferenceIdeal
public import proofs.«01_k».proof.Proof.Line

@[expose] public section

noncomputable section

namespace Cert.RefCode

open Idealize.ShloMosaic Idealize.ShloMosaic.StableHlo Idealize.SL.Sem Cert.ReferenceIdeal Cert.Line

variable {F : FTy → Type} [FloatOps F]

/-! ## the generator on the two counters of a key split -/

/-- Part 1 of 4 of the generator on the two counters of a key split. -/
def pair0 (a : TRef sig ⟨S_, .i32⟩) (b : TRef sig ⟨S_, .i32⟩) (x : TRef sig ⟨S2, .i32⟩) (y : TRef sig ⟨S2, .i32⟩) (φ : fn_threefry2x32.Bufs) :
    Code (fn_threefry2x32.body_part0 (F := F) a b x y φ) := by
  refine .of (fn_threefry2x32.body_part0.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_)

/-- Part 2 of 4 of the generator on the two counters of a key split. -/
def pair1 (a : TRef sig ⟨S_, .i32⟩) (b : TRef sig ⟨S_, .i32⟩) (x : TRef sig ⟨S2, .i32⟩) (y : TRef sig ⟨S2, .i32⟩) (φ : fn_threefry2x32.Bufs) :
    Code (fn_threefry2x32.body_part1 (F := F) a b x y φ) := by
  refine .of (fn_threefry2x32.body_part1.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_)

/-- Part 3 of 4 of the generator on the two counters of a key split. -/
def pair2 (a : TRef sig ⟨S_, .i32⟩) (b : TRef sig ⟨S_, .i32⟩) (x : TRef sig ⟨S2, .i32⟩) (y : TRef sig ⟨S2, .i32⟩) (φ : fn_threefry2x32.Bufs) :
    Code (fn_threefry2x32.body_part2 (F := F) a b x y φ) := by
  refine .of (fn_threefry2x32.body_part2.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_)

/-- Part 4 of 4 of the generator on the two counters of a key split. -/
def pair3 (a : TRef sig ⟨S_, .i32⟩) (b : TRef sig ⟨S_, .i32⟩) (x : TRef sig ⟨S2, .i32⟩) (y : TRef sig ⟨S2, .i32⟩) (φ : fn_threefry2x32.Bufs) :
    Code (fn_threefry2x32.body_part3 (F := F) a b x y φ) := by
  refine .of (fn_threefry2x32.body_part3.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_)

/-- The whole of the generator on the two counters of a key split. -/
def pair (a : TRef sig ⟨S_, .i32⟩) (b : TRef sig ⟨S_, .i32⟩) (x : TRef sig ⟨S2, .i32⟩) (y : TRef sig ⟨S2, .i32⟩) (φ : fn_threefry2x32.Bufs) : Code (fn_threefry2x32.body (F := F) a b x y φ) :=
  .of (fn_threefry2x32.body.eq_1 ..) (.bind (pair0 ..) (.bind (pair1 ..) (.bind (pair2 ..) (pair3 ..))))

/-! ## the generator on a counter per element -/

/-- Part 1 of 4 of the generator on a counter per element. -/
def field0 (a : TRef sig ⟨S_, .i32⟩) (b : TRef sig ⟨S_, .i32⟩) (x : TRef sig ⟨S8x16384x26, .i32⟩) (y : TRef sig ⟨S8x16384x26, .i32⟩) (φ : fn_threefry2x32_0.Bufs) :
    Code (fn_threefry2x32_0.body_part0 (F := F) a b x y φ) := by
  refine .of (fn_threefry2x32_0.body_part0.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_)

/-- Part 2 of 4 of the generator on a counter per element. -/
def field1 (a : TRef sig ⟨S_, .i32⟩) (b : TRef sig ⟨S_, .i32⟩) (x : TRef sig ⟨S8x16384x26, .i32⟩) (y : TRef sig ⟨S8x16384x26, .i32⟩) (φ : fn_threefry2x32_0.Bufs) :
    Code (fn_threefry2x32_0.body_part1 (F := F) a b x y φ) := by
  refine .of (fn_threefry2x32_0.body_part1.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_)

/-- Part 3 of 4 of the generator on a counter per element. -/
def field2 (a : TRef sig ⟨S_, .i32⟩) (b : TRef sig ⟨S_, .i32⟩) (x : TRef sig ⟨S8x16384x26, .i32⟩) (y : TRef sig ⟨S8x16384x26, .i32⟩) (φ : fn_threefry2x32_0.Bufs) :
    Code (fn_threefry2x32_0.body_part2 (F := F) a b x y φ) := by
  refine .of (fn_threefry2x32_0.body_part2.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_)

/-- Part 4 of 4 of the generator on a counter per element. -/
def field3 (a : TRef sig ⟨S_, .i32⟩) (b : TRef sig ⟨S_, .i32⟩) (x : TRef sig ⟨S8x16384x26, .i32⟩) (y : TRef sig ⟨S8x16384x26, .i32⟩) (φ : fn_threefry2x32_0.Bufs) :
    Code (fn_threefry2x32_0.body_part3 (F := F) a b x y φ) := by
  refine .of (fn_threefry2x32_0.body_part3.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_)

/-- The whole of the generator on a counter per element. -/
def field (a : TRef sig ⟨S_, .i32⟩) (b : TRef sig ⟨S_, .i32⟩) (x : TRef sig ⟨S8x16384x26, .i32⟩) (y : TRef sig ⟨S8x16384x26, .i32⟩) (φ : fn_threefry2x32_0.Bufs) : Code (fn_threefry2x32_0.body (F := F) a b x y φ) :=
  .of (fn_threefry2x32_0.body.eq_1 ..) (.bind (field0 ..) (.bind (field1 ..) (.bind (field2 ..) (field3 ..))))

/-- The split of the seed's key. -/
def split (k : TRef sig ⟨S2, .i32⟩) (φ : fn_threefry_split.Bufs) : Code (fn_threefry_split.body (F := F) k φ) := by
  refine .of (fn_threefry_split.body.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_ | refine Code.bind (pair ..) ?_)

/-- The split of the flips' key. -/
def split2 (k : TRef sig ⟨S2, .i32⟩) (φ : fn_threefry_split_2.Bufs) : Code (fn_threefry_split_2.body (F := F) k φ) := by
  refine .of (fn_threefry_split_2.body.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_ | refine Code.bind (pair ..) ?_)

/-- The uniform draws. -/
def uniform (k : TRef sig ⟨S2, .i32⟩) (lo : TRef sig ⟨S_, .f32⟩) (hi : TRef sig ⟨S_, .f32⟩) (φ : fn_uniform.Bufs) : Code (fn_uniform.body (F := F) k lo hi φ) := by
  refine .of (fn_uniform.body.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_ | refine Code.bind (field ..) ?_)

/-- The mask. -/
def bernoulli (k : TRef sig ⟨S2, .i32⟩) (p : TRef sig ⟨S_, .f32⟩) (φ : fn_bernoulli.Bufs) : Code (fn_bernoulli.body (F := F) k p φ) := by
  refine .of (fn_bernoulli.body.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_ | refine Code.bind (uniform ..) ?_)

/-- The clip of a bound against a type's range. -/
def clip (x : TRef sig ⟨S_, .i32⟩) (lo : TRef sig ⟨S_, .i32⟩) (hi : TRef sig ⟨S_, .i32⟩) (φ : fn_clip.Bufs) : Code (fn_clip.body (F := F) x lo hi φ) := by
  refine .of (fn_clip.body.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_)

/-- The clip of a bound against a type's range, again. -/
def clip1 (x : TRef sig ⟨S_, .i32⟩) (lo : TRef sig ⟨S_, .i32⟩) (hi : TRef sig ⟨S_, .i32⟩) (φ : fn_clip_1.Bufs) : Code (fn_clip_1.body (F := F) x lo hi φ) := by
  refine .of (fn_clip_1.body.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_)

/-! ## the draws of the flips -/

/-- Part 1 of 2 of the draws of the flips. -/
def randint0 (k : TRef sig ⟨S2, .i32⟩) (lo : TRef sig ⟨S_, .i32⟩) (hi : TRef sig ⟨S_, .i32⟩) (φ : fn_randint.Bufs) :
    Code (fn_randint.body_part0 (F := F) k lo hi φ) := by
  refine .of (fn_randint.body_part0.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_ | refine Code.bind (clip ..) ?_ | refine Code.bind (clip1 ..) ?_ | refine Code.bind (split2 ..) ?_ | refine Code.bind (field ..) ?_)

/-- Part 2 of 2 of the draws of the flips. -/
def randint1 (k : TRef sig ⟨S2, .i32⟩) (lo : TRef sig ⟨S_, .i32⟩) (hi : TRef sig ⟨S_, .i32⟩) (φ : fn_randint.Bufs) :
    Code (fn_randint.body_part1 (F := F) k lo hi φ) := by
  refine .of (fn_randint.body_part1.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_ | refine Code.bind (clip ..) ?_ | refine Code.bind (clip1 ..) ?_ | refine Code.bind (split2 ..) ?_ | refine Code.bind (field ..) ?_)

/-- The whole of the draws of the flips. -/
def randint (k : TRef sig ⟨S2, .i32⟩) (lo : TRef sig ⟨S_, .i32⟩) (hi : TRef sig ⟨S_, .i32⟩) (φ : fn_randint.Bufs) : Code (fn_randint.body (F := F) k lo hi φ) :=
  .of (fn_randint.body.eq_1 ..) (.bind (randint0 ..) (randint1 ..))

/-- The whole reference. -/
def whole (d : Dev nD) : Code (main (F := F) d) := by
  refine .of (main.eq_1 ..) ?_
  with_reducible repeat (first | exact Code.nil | exact Code.last (reads_unary ..) | exact Code.last (reads_binary ..) | refine Code.cons (reads_binary ..) ?_ | refine Code.cons (reads_nullary ..) ?_ | refine Code.cons (reads_unary ..) ?_ | refine Code.cons (reads_reshape ..) ?_ | refine Code.cons (reads_ternary ..) ?_ | refine Code.bind (split ..) ?_ | refine Code.bind (bernoulli ..) ?_ | refine Code.bind (randint ..) ?_)

end Cert.RefCode

end
-- ==== Proof.RefRun.lean ====
/- The reference's run: its buffers end at contents that satisfy every operation's equation. -/
module

public import proofs.«01_k».proof.Proof.RefCode
public import Idealize.ShloMosaic.PureOps.Ideal
public import Idealize.ShloMosaic.Lib.Quiescent

@[expose] public section

noncomputable section

namespace Cert.RefRun

open Idealize.ShloMosaic Idealize.ShloMosaic.StableHlo Idealize.SL.Sem Cert.ReferenceIdeal Cert.Line

/-- The reference's operations. -/
abbrev code : Code (main (F := Ideal) 0) := RefCode.whole 0

set_option maxRecDepth 100000 in
/-- They write buffers of rising number, the argument's below all, and each reads only buffers of lower number than its own. -/
theorem code_ordered : ordered 1 code.desc = true := by decide +kernel

/-- The reference runs: its final contents satisfy the equation of every operation, its argument is unchanged and every counter is
    zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD, ∃ W : Valuation τ sig (Elt Ideal), Fix W code.ops
        ∧ (∀ b : Ref sig .tc, r.2.mem ((d.tc : Thread nD τ).loc b) = W (Proc.devRef .tc b))
        ∧ W (Proc.devRef .tc main_arg0) = m ((d.tc : Thread nD τ).loc main_arg0))
      ∧ r.2.sem = fun _ => 0 :=
  θ_run_mono (run_line defs main RefCode.whole (fun _ => rfl) code.reads 1 code_ordered (by decide) (by decide) m ρ) fun r h =>
    ⟨fun d => by
      obtain ⟨W, h1, h2, h3⟩ := h d
      exact ⟨W, h1, h2, h3 main_arg0 (by decide)⟩, sem_eq_zero_of_no_sems rfl _⟩

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD, r.2.mem ((d.tc : Thread nD τ).loc main_arg0) = m ((d.tc : Thread nD τ).loc main_arg0))
      ∧ r.2.sem = fun _ => 0 :=
  θ_run_mono (run m ρ) fun r h => ⟨fun d => by
    obtain ⟨W, -, h2, h3⟩ := h.1 d
    exact (h2 main_arg0).trans h3, h.2⟩

end Cert.RefRun

end
-- ==== Proof.Words.lean ====
/- The counter-based generator on 32-bit words, round by round, as both programs compute it. -/
module

public import Idealize.ShloMosaic.PureOps.Vector

@[expose] public section

namespace Cert.Words

/-- A pair of 32-bit words. -/
abbrev Pair := BitVec 32 × BitVec 32

/-- One round: the sum, and the second word rotated (left by `n`, which is right by `m`) and mixed with the sum. -/
def rnd (n m : BitVec 32) (p : Pair) : Pair := (p.1 + p.2, (p.1 + p.2) ^^^ (p.2 <<< n ||| p.2 >>> m))

/-- The four rounds of the odd groups. -/
def quadA (p : Pair) : Pair := rnd 6#32 26#32 (rnd 26#32 6#32 (rnd 15#32 17#32 (rnd 13#32 19#32 p)))

/-- The four rounds of the even groups. -/
def quadB (p : Pair) : Pair := rnd 24#32 8#32 (rnd 16#32 16#32 (rnd 29#32 3#32 (rnd 17#32 15#32 p)))

/-- A key injection: a key word onto each word, the second with the group's number. -/
def inj (a b n : BitVec 32) (p : Pair) : Pair := (p.1 + a, p.2 + (b + n))

/-- The five groups from the keyed counters `p`, under key words `a`, `b` and their parity word `c`. -/
def groups (a b c : BitVec 32) (p : Pair) : Pair :=
  inj c a 5#32 (quadA (inj b c 4#32 (quadB (inj a b 3#32 (quadA (inj c a 2#32 (quadB (inj b c 1#32 (quadA p)))))))))

/-- The parity word of a key. -/
def parity (a b : BitVec 32) : BitVec 32 := a ^^^ b ^^^ 466688986#32

/-- The generator: key `(a, b)`, counter `(x, y)`. -/
def tf (a b x y : BitVec 32) : Pair := groups a b (parity a b) (x + a, y + b)

/-- A group's rounds from its states in turn. -/
theorem quadA_of {p p₁ p₂ p₃ : Pair} (h₁ : p₁ = rnd 13#32 19#32 p) (h₂ : p₂ = rnd 15#32 17#32 p₁) (h₃ : p₃ = rnd 26#32 6#32 p₂) :
    rnd 6#32 26#32 p₃ = quadA p := by subst h₁ h₂ h₃; rfl

/-- A group's rounds from its states in turn. -/
theorem quadB_of {p p₁ p₂ p₃ : Pair} (h₁ : p₁ = rnd 17#32 15#32 p) (h₂ : p₂ = rnd 29#32 3#32 p₁) (h₃ : p₃ = rnd 16#32 16#32 p₂) :
    rnd 24#32 8#32 p₃ = quadB p := by subst h₁ h₂ h₃; rfl

end Cert.Words

end
-- ==== Proof.KerWords.lean ====
/- The words the kernel's block draws, as the generator's. -/
module

public import proofs.«01_k».proof.Proof.Gen.KernelIdeal.Frame
public import proofs.«01_k».proof.Proof.Words

@[expose] public section

noncomputable section

namespace Cert.KerWords

open Idealize.ShloMosaic Idealize.SL.Sem Cert.KernelIdeal Cert.KernelIdeal.Gen Cert.Words

/-- A round, as the vector unit computes it. -/
theorem lane (n m : BitVec 32) (p : Pair) (hn : n.toNat < 32) (hm : m.toNat < 32) :
    (p.1 + p.2, (p.1 + p.2) ^^^ (IntOp.shli .vector p.2 n ||| IntOp.shrui .vector p.2 m)) = rnd n m p := by
  rw [show IntOp.shli .vector p.2 n = p.2 <<< n from if_pos hn, show IntOp.shrui .vector p.2 m = p.2 >>> m from if_pos hm]
  rfl

/-- A group's odd rounds from its states, as the vector unit computes them. -/
theorem lanesA {p p₁ p₂ p₃ : Pair}
    (h₁ : p₁ = (p.1 + p.2, (p.1 + p.2) ^^^ (IntOp.shli .vector p.2 13#32 ||| IntOp.shrui .vector p.2 19#32)))
    (h₂ : p₂ = (p₁.1 + p₁.2, (p₁.1 + p₁.2) ^^^ (IntOp.shli .vector p₁.2 15#32 ||| IntOp.shrui .vector p₁.2 17#32)))
    (h₃ : p₃ = (p₂.1 + p₂.2, (p₂.1 + p₂.2) ^^^ (IntOp.shli .vector p₂.2 26#32 ||| IntOp.shrui .vector p₂.2 6#32))) :
    quadA p = (p₃.1 + p₃.2, (p₃.1 + p₃.2) ^^^ (IntOp.shli .vector p₃.2 6#32 ||| IntOp.shrui .vector p₃.2 26#32)) := by
  rw [lane _ _ _ (by decide) (by decide)] at h₁ h₂ h₃ ⊢
  exact (quadA_of h₁ h₂ h₃).symm

/-- A group's even rounds from its states, as the vector unit computes them. -/
theorem lanesB {p p₁ p₂ p₃ : Pair}
    (h₁ : p₁ = (p.1 + p.2, (p.1 + p.2) ^^^ (IntOp.shli .vector p.2 17#32 ||| IntOp.shrui .vector p.2 15#32)))
    (h₂ : p₂ = (p₁.1 + p₁.2, (p₁.1 + p₁.2) ^^^ (IntOp.shli .vector p₁.2 29#32 ||| IntOp.shrui .vector p₁.2 3#32)))
    (h₃ : p₃ = (p₂.1 + p₂.2, (p₂.1 + p₂.2) ^^^ (IntOp.shli .vector p₂.2 16#32 ||| IntOp.shrui .vector p₂.2 16#32))) :
    quadB p = (p₃.1 + p₃.2, (p₃.1 + p₃.2) ^^^ (IntOp.shli .vector p₃.2 24#32 ||| IntOp.shrui .vector p₃.2 8#32)) := by
  rw [lane _ _ _ (by decide) (by decide)] at h₁ h₂ h₃ ⊢
  exact (quadB_of h₁ h₂ h₃).symm

/-! ## the mask's words, group by group -/

variable {F : FTy → Type} [FloatOps F] (j : S26x8192.Idx)

/-- The mask's first group of rounds with its key injection, at a place. -/
theorem mask1 (i : grid0.Coords) : inj 270669613#32 1724713080#32 1#32 (quadA (1832780943#32, k0_pay4 i j + 270669613#32))
    = (k0_pay14 i j, k0_pay15 (k0_pay13 i) 1724713080#32 j) := by
  rw [lanesA (p₁ := (k0_pay6 i j, k0_pay7 i j)) (p₂ := (k0_pay8 i j, k0_pay9 i j)) (p₃ := (k0_pay10 i j, k0_pay11 i j)) ?_ ?_ ?_] <;> rfl

/-- The mask's second group of rounds with its key injection, at a place. -/
theorem mask2 (u v : IVec S26x8192 32) (c : BitVec 32) : inj 1724713080#32 1832780943#32 2#32 (quadB (v j, k0_pay15 u c j))
    = (k0_pay22 u v c j + 1724713080#32, k0_pay23 u v c j) := by
  rw [lanesB (p₁ := (k0_pay16 u v c j, k0_pay17 u v c j)) (p₂ := (k0_pay18 u v c j, k0_pay19 u v c j))
    (p₃ := (k0_pay20 u v c j, k0_pay21 u v c j)) ?_ ?_ ?_] <;> rfl

/-- The mask's third group of rounds with its key injection, at a place. -/
theorem mask3 (u v : IVec S26x8192 32) (c : BitVec 32) :
    inj 1832780943#32 270669613#32 3#32 (quadA (k0_pay22 u v c j + 1724713080#32, k0_pay23 u v c j))
      = (k0_pay31 (k0_pay25 u v c) (k0_pay26 u v c) k0_pay27 j + 1832780943#32,
        k0_pay32 (k0_pay25 u v c) (k0_pay26 u v c) k0_pay27 j) := by
  rw [lanesA (p₁ := (k0_pay24 u v c j, k0_pay25 u v c j))
    (p₂ := (k0_pay26 u v c j, k0_pay28 (k0_pay25 u v c) (k0_pay26 u v c) k0_pay27 j))
    (p₃ := (k0_pay29 (k0_pay25 u v c) (k0_pay26 u v c) k0_pay27 j, k0_pay30 (k0_pay25 u v c) (k0_pay26 u v c) k0_pay27 j)) ?_ ?_ ?_] <;> rfl

/-- The mask's fourth group of rounds with its key injection, at a place. -/
theorem mask4 (u v w : IVec S26x8192 32) :
    inj 270669613#32 1724713080#32 4#32 (quadB (k0_pay31 u v w j + 1832780943#32, k0_pay32 u v w j))
      = (k0_pay39 u v w j + 270669613#32, k0_pay40 (k0_pay38 u v w) (k0_pay39 u v w) j) := by
  rw [lanesB (p₁ := (k0_pay33 u v w j, k0_pay34 u v w j)) (p₂ := (k0_pay35 u v w j, k0_pay36 u v w j))
    (p₃ := (k0_pay37 u v w j, k0_pay38 u v w j)) ?_ ?_ ?_] <;> rfl

/-- The mask's fifth group of rounds with its key injection, at a place. -/
theorem mask5 (u v : IVec S26x8192 32) :
    inj 1724713080#32 1832780943#32 5#32 (quadA (v j + 270669613#32, k0_pay40 u v j)) = (k0_pay48 u v j, k0_pay49 u v j) := by
  rw [lanesA (p₁ := (k0_pay41 u v j, k0_pay42 u v j)) (p₂ := (k0_pay43 u v j, k0_pay44 u v j))
    (p₃ := (k0_pay45 u v j, k0_pay46 u v j)) ?_ ?_ ?_] <;> rfl

/-! ## the flips' words, group by group -/

/-- The flips' first group of rounds with its key injection, at a place. -/
theorem flip1 (v : IVec S26x8192 32) : inj 1168365246#32 3529550792#32 1#32 (quadA (2350016172#32, v j + 1168365246#32))
    = (k0_pay58 v j + 1168365246#32, k0_pay59 v j) := by
  rw [lanesA (p₁ := (k0_pay52 v j, k0_pay53 v j)) (p₂ := (k0_pay54 v j, k0_pay55 v j)) (p₃ := (k0_pay56 v j, k0_pay57 v j)) ?_ ?_ ?_] <;> rfl

/-- The flips' second group of rounds with its key injection, at a place. -/
theorem flip2 (v : IVec S26x8192 32) :
    inj 3529550792#32 2350016172#32 2#32 (quadB (k0_pay58 v j + 1168365246#32, k0_pay59 v j))
      = (k0_pay66 (k0_pay61 v) (k0_pay62 v) j + 3529550792#32, k0_pay67 (k0_pay61 v) (k0_pay62 v) j) := by
  rw [lanesB (p₁ := (k0_pay60 v j, k0_pay61 v j)) (p₂ := (k0_pay62 v j, k0_pay63 (k0_pay61 v) (k0_pay62 v) j))
    (p₃ := (k0_pay64 (k0_pay61 v) (k0_pay62 v) j, k0_pay65 (k0_pay61 v) (k0_pay62 v) j)) ?_ ?_ ?_] <;> rfl

/-- The flips' third group of rounds with its key injection, at a place. -/
theorem flip3 (u v : IVec S26x8192 32) :
    inj 2350016172#32 1168365246#32 3#32 (quadA (k0_pay66 u v j + 3529550792#32, k0_pay67 u v j))
      = (k0_pay75 (k0_pay72 u v) (k0_pay73 u v) j + 2350016172#32, k0_pay76 (k0_pay72 u v) (k0_pay73 u v) j) := by
  rw [lanesA (p₁ := (k0_pay68 u v j, k0_pay69 u v j)) (p₂ := (k0_pay70 u v j, k0_pay71 u v j))
    (p₃ := (k0_pay72 u v j, k0_pay74 (k0_pay72 u v) (k0_pay73 u v) j)) ?_ ?_ ?_] <;> rfl

/-- The flips' fourth group of rounds with its key injection, at a place. -/
theorem flip4 (u v : IVec S26x8192 32) :
    inj 1168365246#32 3529550792#32 4#32 (quadB (k0_pay75 u v j + 2350016172#32, k0_pay76 u v j))
      = (k0_pay85 u v j, k0_pay84 u v j + (3529550792#32 + 4#32)) := by
  rw [lanesB (p₁ := (k0_pay77 u v j, k0_pay78 u v j)) (p₂ := (k0_pay79 u v j, k0_pay80 u v j))
    (p₃ := (k0_pay81 u v j, k0_pay82 u v j)) ?_ ?_ ?_] <;> rfl

/-- The flips' fifth group of rounds with its key injection, their words joined and taken modulo 100000, at a place. -/
theorem flip5 (u v : IVec S26x8192 32) (c : BitVec 32) : k0_pay87 u v c j
    = ((inj 3529550792#32 2350016172#32 5#32 (quadA (v j, u j + c))).1 ^^^ (inj 3529550792#32 2350016172#32 5#32 (quadA (v j, u j + c))).2)
      % 100000#32 := by
  rfl

/-! ## the words a block draws -/

/-- The word drawn for counter `n` under the key `(a, b)`. -/
def word (a b n : BitVec 32) : BitVec 32 := (tf a b 0#32 n).1 ^^^ (tf a b 0#32 n).2

/-- The third key word of the mask's key. -/
theorem parity_mask : parity 1832780943#32 270669613#32 = 1724713080#32 := by decide

/-- The third key word of the flips' key. -/
theorem parity_flip : parity 2350016172#32 1168365246#32 = 3529550792#32 := by decide

/-- The word the mask compares. -/
theorem mask_word (i : grid0.Coords) (x : Vec F S8192x26 .i32) :
    k0_pay50 (k0_pay48 (k0_pay96 i x) (k0_pay97 i x)) (k0_pay49 (k0_pay96 i x) (k0_pay97 i x)) j
      = word 1832780943#32 270669613#32 (k0_pay4 i j) := by
  have h : tf 1832780943#32 270669613#32 0#32 (k0_pay4 i j)
      = (k0_pay48 (k0_pay96 i x) (k0_pay97 i x) j, k0_pay49 (k0_pay96 i x) (k0_pay97 i x) j) := by
    unfold tf groups
    rw [parity_mask, BitVec.zero_add, mask1, mask2, mask3, mask4, mask5]
    rfl
  unfold word
  rw [h]
  rfl

/-- The remainder the flips take. -/
theorem flip_word (i : grid0.Coords) (x : Vec F S8192x26 .i32) :
    k0_pay87 (k0_pay102 i x) (k0_pay103 i x) (Scalar.addi 3529550792#32 4#32) j
      = word 2350016172#32 1168365246#32 (k0_pay4 i j) % 100000#32 := by
  rw [flip5]
  unfold word tf groups
  rw [parity_flip, BitVec.zero_add, flip1, flip2, flip3, flip4]
  rfl

/-- The counter of a place in a block. -/
theorem counter (i : grid0.Coords) : k0_pay4 i j = BitVec.ofNat 32 (212992 * (i 0).val + 26 * (j 1).val + (j 0).val) := by
  have e : k0_pay4 i j = BitVec.ofNat 32 (i 0).val * 212992#32 + BitVec.ofNat 32 (j 1).val * 26#32 + BitVec.ofNat 32 (j 0).val := by
    show BitVec.ofNat 32 (i 0).val * 212992#32 + BitVec.ofNat 32 (0 * 8192 + (j 1).val) * 26#32 + BitVec.ofNat 32 (0 * 26 + (j 0).val) = _
    rw [Nat.zero_mul, Nat.zero_add, Nat.zero_add]
  rw [e, BitVec.ofNat_add, BitVec.ofNat_add, BitVec.ofNat_mul, BitVec.ofNat_mul, BitVec.mul_comm (BitVec.ofNat 32 (i 0).val),
    BitVec.mul_comm (BitVec.ofNat 32 (j 1).val)]

end Cert.KerWords

end
-- ==== Proof.KerBlock.lean ====
/- What the kernel's body leaves in its output block. -/
module

public import proofs.«01_k».proof.Proof.KerWords
public import Idealize.ShloMosaic.Lib.PointwiseCore
public import Idealize.ShloMosaic.Lib.Pointwise
public import Idealize.ShloMosaic.Lib.Pipeline.ValueKit

@[expose] public section

noncomputable section

namespace Cert.KerWords

open Idealize.ShloMosaic Idealize.SL.Sem Cert.KernelIdeal Cert.KernelIdeal.Gen Cert.Words

/-- An element perturbed at counter `n`: kept where the mask's word is under 429496832, else replaced by its flip. -/
def flipped (x n : BitVec 32) : BitVec 32 :=
  if (word 1832780943#32 270669613#32 n).ult 429496832#32 then x else word 2350016172#32 1168365246#32 n % 100000#32

variable {F : FTy → Type} [FloatOps F]

/-- The sentinel −1 marks the kept places: no flip is below zero. -/
theorem pick (w f x : BitVec 32) (b : BitVec 1) (hf : f.toNat < 100000) :
    (let z := Scalar.select (IntOp.cmpi .ult w 429496832#32) 4294967295#32
      (Scalar.select (IntOp.andi (IntOp.xori (IntOp.cmpi .ult f 0#32) (Scalar.cmpi .ult 100000#32 0#32)) b) (IntOp.addi f 100000#32) f)
     Scalar.select (IntOp.cmpi .slt z 0#32) x z) = if w.ult 429496832#32 then x else f := by
  have h0 : IntOp.cmpi .ult f 0#32 = 0#1 := by
    show BitVec.ofBool (f.ult 0#32) = 0#1
    rw [show f.ult 0#32 = false by simp [BitVec.ult]]
    rfl
  have h1 : Scalar.cmpi .ult 100000#32 0#32 = 0#1 := by decide
  have h2 : IntOp.andi (IntOp.xori 0#1 0#1) b = 0#1 := by
    show (0#1 ^^^ 0#1) &&& b = 0#1
    simp
  have h3 : IntOp.cmpi .slt f 0#32 = 0#1 := by
    show BitVec.ofBool (f.slt 0#32) = 0#1
    rw [show f.slt 0#32 = false by
      rw [BitVec.slt, BitVec.toInt_eq_toNat_of_lt (by omega)]
      simp]
    rfl
  rw [h0, h1, h2]
  show (let z := Scalar.select (BitVec.ofBool (w.ult 429496832#32)) 4294967295#32 f; Scalar.select (IntOp.cmpi .slt z 0#32) x z) = _
  cases w.ult 429496832#32
  · show Scalar.select (IntOp.cmpi .slt f 0#32) x f = f
    rw [h3]
    rfl
  · rfl

/-- The second store at a place, from the mask's words `w` and the flips `f`. -/
theorem pay2_at (v : IVec S8192x26 32) (w f : IVec S26x8192 32) (b : IVec S26x8192 1) (y : S1x8192x26.Idx)
    (hf : (f (ix2 (y 2) (y 1))).toNat < 100000) :
    k0_pay2 v (k0_pay86 w) 100000#32 f b y
      = if (w (ix2 (y 2) (y 1))).ult 429496832#32 then v (ix2 (y 1) (y 2)) else f (ix2 (y 2) (y 1)) := by
  unfold k0_pay2 k0_pay86
  dsimp only
  pointwise
  exact pick _ _ _ _ hf

/-- The first store at a place. -/
theorem pay1_at (v : IVec S8192x26 32) (y : S1x8192x26.Idx) : k0_pay1 v y = v (ix2 (y 1) (y 2)) := by
  unfold k0_pay1
  pointwise

/-- The block's rows as the body reads them. -/
theorem rows_read (i : grid0.Coords) (x : Vec F S8192x26 .i32) : k0_pay89 i x = x := by
  unfold k0_pay89 k0_pay3
  dsimp only
  funext y
  pointwise

/-- The output block's second half at a place. -/
theorem second_at (i : grid0.Coords) (x : Vec F S8192x26 .i32) (y : S1x8192x26.Idx) :
    k0_pay2 (k0_pay89 i x) (k0_pay86 (k0_pay50 (k0_pay48 (k0_pay96 i x) (k0_pay97 i x)) (k0_pay49 (k0_pay96 i x) (k0_pay97 i x))))
        (Scalar.select (Scalar.cmpi .eq 100000#32 0#32) 1#32 100000#32)
        (k0_pay87 (k0_pay102 i x) (k0_pay103 i x) (Scalar.addi 3529550792#32 4#32))
        (k0_pay88 (k0_pay102 i x) (k0_pay103 i x) (Scalar.addi 3529550792#32 4#32)) y
      = flipped (x (ix2 (y 1) (y 2))) (BitVec.ofNat 32 (212992 * (i 0).val + 26 * (y 1).val + (y 2).val)) := by
  rw [show Scalar.select (Scalar.cmpi .eq 100000#32 0#32) 1#32 100000#32 = 100000#32 by decide, pay2_at, mask_word, flip_word, rows_read, counter]
  · rfl
  · rw [flip_word, BitVec.toNat_umod]
    exact Nat.mod_lt _ (by decide)

/-- The output block at a place: its first half the block read, its second half that block perturbed. -/
theorem block_at (i : grid0.Coords) (x : Vec F S8192x26 .i32) (y : S2x8192x26.Idx) :
    out0_1 i x y = if (y 0).val = 0 then x (ix2 (y 1) (y 2))
      else flipped (x (ix2 (y 1) (y 2))) (BitVec.ofNat 32 (212992 * (i 0).val + 26 * (y 1).val + (y 2).val)) := by
  unfold out0_1
  canon_tiles z h
  all_goals
    have e : (ix2 (y 1) (y 2) : S8192x26.Idx) = ix2 (z 1) (z 2) :=
      congrArg₂ ix2 (Fin.ext h1 : (y 1 : Fin 8192) = z 1) (Fin.ext h2 : (y 2 : Fin 26) = z 2)
    rw [e, h1, h2]
  · rw [if_neg (by omega)]
    exact second_at i x z
  · rw [if_pos (by omega), pay1_at, rows_read]
    rfl

end Cert.KerWords

end
-- ==== Proof.KerArray.lean ====
/- The kernel's output array after the grid, and the program's results. -/
module

public import proofs.«01_k».proof.Proof.KerBlock

@[expose] public section

noncomputable section

namespace Cert.KerWords

open Idealize.ShloMosaic Idealize.SL.Sem Cert.KernelIdeal Cert.KernelIdeal.Gen Cert.Words

variable {F : FTy → Type} [FloatOps F] (m : (ℓ : Loc nD τ sig) → Buf (Elt F) ℓ)

/-- The two halves of the output array, from the rows: the rows, and the rows perturbed. -/
def halves (X : Vec F S131072x26 .i32) : Vec F S2x131072x26 .i32 := fun y =>
  if (y 0).val = 0 then X (ix2 (y 1) (y 2)) else flipped (X (ix2 (y 1) (y 2))) (BitVec.ofNat 32 (26 * (y 1).val + (y 2).val))

/-- The grid's coordinate at a point. -/
theorem coords_val : ∀ t : Fin grid0.N, (grid0.coords t 0).val = t.val := by decide +kernel

/-- The input's block at a point. -/
theorem index_in : ∀ t : Fin grid0.N, win0_0.index t 0 = t.val ∧ win0_0.index t 1 = 0 := by decide +kernel

/-- The output's block at a point. -/
theorem index_out : ∀ t : Fin grid0.N, win0_1.index t 0 = 0 ∧ win0_1.index t 1 = t.val ∧ win0_1.index t 2 = 0 := by decide +kernel

/-- The output array after the grid. -/
theorem array (c : Dev nD) : (dats m 0 c).arrAt 1 (cfgs 0).N = halves (V m c main_v0) := by
  refine (dats m 0 c).arrAt_eq_of_covers 1 _ (by decide +kernel) fun t hf y => ?_
  blk_simp
  rw [after0_1, block_at]
  obtain ⟨o0, o1, o2⟩ := index_out t
  obtain ⟨i0, i1⟩ := index_in t
  have e0 : (((cfg0.win 1).blk t).view.emb y 0).val = (y 0).val := by
    blk_simp
    rw [o0, Nat.zero_mul, Nat.zero_add]
  have e1 : (((cfg0.win 1).blk t).view.emb y 1).val = t.val * 8192 + (y 1).val := by
    blk_simp
    rw [o1]
  have e2 : (((cfg0.win 1).blk t).view.emb y 2).val = (y 2).val := by
    blk_simp
    rw [o2, Nat.zero_mul, Nat.zero_add]
  have er : iblk m c 0 t (ix2 (y 1) (y 2))
      = V m c main_v0 (ix2 (((cfg0.win 1).blk t).view.emb y 1) (((cfg0.win 1).blk t).view.emb y 2)) := by
    blk_simp [iblk]
    refine congrArg (V m c main_v0) (funext fun a => Fin.ext ?_)
    match a with
    | 0 =>
      refine Eq.trans ?_ e1.symm
      blk_simp
      rw [i0]
    | 1 =>
      refine Eq.trans ?_ e2.symm
      blk_simp
      rw [i1, Nat.zero_mul, Nat.zero_add]
  have en : 212992 * (grid0.coords t 0).val + 26 * (y 1).val + (y 2).val
      = 26 * (((cfg0.win 1).blk t).view.emb y 1).val + (((cfg0.win 1).blk t).view.emb y 2).val := by
    rw [e1, e2, coords_val]
    omega
  rw [er, en, ← e0]
  rfl

/-- The rows as the grid finds them: the argument reshaped. -/
theorem rows_found (c : Dev nD) :
    V m c main_v0 = shapeCast S131072x26 (m (c.tc.loc main_arg0)) shapeCasts_S8x16384x26_S131072x26 := by
  show StableHlo.after (List.flatten [hostOps0]) (fun b => m (c, b)) (Proc.devRef .tc main_v0) = _
  simp only [hostOps0, List.flatten_cons, List.flatten_nil, List.append_nil]
  after_results
  rfl

/-- The first result, from the output array. -/
theorem tail_result (W : Valuation τ sig (Elt F)) : StableHlo.after (List.flatten [hostOps1]) W (Proc.devRef .tc main_v2)
    = shapeCast S16x16384x26 (W (Proc.devRef .tc main_v1)) shapeCasts_S2x131072x26_S16x16384x26 := by
  simp only [hostOps1, List.flatten_cons, List.flatten_nil, List.append_nil]
  after_results
  rfl

/-- The second result. -/
theorem tail_zero (W : Valuation τ sig (Elt F)) : StableHlo.after (List.flatten [hostOps1]) W (Proc.devRef .tc main_cst)
    = (constant S_ .f32 0x00000000#32 : FVec F S_ .f32) := by
  simp only [hostOps1, List.flatten_cons, List.flatten_nil, List.append_nil]
  after_results

/-- The program's run, with its results named. -/
theorem run (ρ : Dev nD → PrngReg) :
    θ_run (defs (F := F)) (onTc (τ := τ) (main (F := F))) ⟨m, fun _ => 0, ρ⟩ (fun r => ∀ c : Dev nD,
      r.2.mem (c.tc.loc main_v2) = shapeCast S16x16384x26 (halves (shapeCast S131072x26 (m (c.tc.loc main_arg0)) shapeCasts_S8x16384x26_S131072x26)) shapeCasts_S2x131072x26_S16x16384x26
      ∧ r.2.mem (c.tc.loc main_cst) = (constant S_ .f32 0x00000000#32 : FVec F S_ .f32)
      ∧ r.2.mem (c.tc.loc main_arg0) = m (c.tc.loc main_arg0)) := by
  run_from (run_main m ρ)
  · unfold Pipeline.afterTail₀
    rw [tail_result, ← rows_found, ← array]
    exact congrArg (fun x => shapeCast S16x16384x26 x shapeCasts_S2x131072x26_S16x16384x26)
      (Pipeline.withArrays_arr (cfgs 0).spec (by decide) c (V0 m c) (fun w => (dats m 0 c).arrAt w (cfgs 0).N) 1)
  · exact tail_zero _
  · exact W_main_arg0 m (dats m) c

end Cert.KerWords

end
-- ==== Proof.RefFix.lean ====
/- The reference's equations, function by function, as facts about words at an index. -/
module

public import proofs.«01_k».proof.Proof.RefCode
public import proofs.«01_k».proof.Proof.Words

@[expose] public section

noncomputable section

namespace Cert.RefFix

open Idealize.ShloMosaic Idealize.ShloMosaic.StableHlo Idealize.SL.Sem Cert.ReferenceIdeal Cert.Line Cert.Words

variable {F : FTy → Type} [FloatOps F]

/-- The one index of a scalar. -/
def s0 : S_.Idx := fun a => (a : Fin 0).elim0

/-- A scalar spread over an array is the scalar everywhere. -/
theorem spread {α : Type} {t : Shape} (h : S_.BroadcastsInDim t ![]) (x : S_.Idx → α) (j : t.Idx) :
    broadcastInDim t ![] h x j = x s0 := congrArg x (funext fun a => (a : Fin 0).elim0)

variable {W : Valuation τ sig (Elt F)} {t : Shape} {ops : List (HloOp τ sig (Elt F))}

/-- A round's operations. -/
theorem round {x y u l₁ l₂ r₁ r₂ o v : TRef sig ⟨t, .i32⟩} {c d : TRef sig ⟨S_, .i32⟩} {n m : BitVec 32} {hb hb'}
    (h : Fix W (TRef.binary x y u addi :: TRef.nullary c (constantI S_ 32 n) :: TRef.unary c l₁ (broadcastInDim t ![] hb)
      :: TRef.binary y l₁ l₂ Host.shli :: TRef.nullary d (constantI S_ 32 m) :: TRef.unary d r₁ (broadcastInDim t ![] hb')
      :: TRef.binary y r₁ r₂ Host.shrui :: TRef.binary l₂ r₂ o ori :: TRef.binary u o v xori :: ops))
    (hn : n.toNat < 32) (hm : m.toNat < 32) :
    (∀ i, ((rd W u i, rd W v i) : Pair) = rnd n m (rd W x i, rd W y i)) ∧ Fix W ops := by
  obtain ⟨e1, h⟩ := h.binary
  obtain ⟨e2, h⟩ := h.nullary
  obtain ⟨e3, h⟩ := h.unary
  obtain ⟨e4, h⟩ := h.binary
  obtain ⟨e5, h⟩ := h.nullary
  obtain ⟨e6, h⟩ := h.unary
  obtain ⟨e7, h⟩ := h.binary
  obtain ⟨e8, h⟩ := h.binary
  obtain ⟨e9, h⟩ := h.binary
  refine ⟨fun i => ?_, h⟩
  have hl : rd W l₂ i = rd W y i <<< n := by
    rw [e4, e3, e2]
    show IntOp.shli .host _ (broadcastInDim t ![] hb (constantI S_ 32 n) i) = _
    rw [spread]
    exact if_pos hn
  have hr : rd W r₂ i = rd W y i >>> m := by
    rw [e7, e6, e5]
    show IntOp.shrui .host _ (broadcastInDim t ![] hb' (constantI S_ 32 m) i) = _
    rw [spread]
    exact if_pos hm
  have hu : rd W u i = (rd W x i + rd W y i : BitVec 32) := by rw [e1]; rfl
  have ho : rd W o i = (rd W y i <<< n ||| rd W y i >>> m : BitVec 32) := by rw [← hl, ← hr, e8]; rfl
  have hv : rd W v i = (rd W u i ^^^ rd W o i : BitVec 32) := by rw [e9]; rfl
  rw [hv, ho, hu]
  rfl

/-- A key injection's operations. -/
theorem inject {x y k₁ u k₂ w k₃ v : TRef sig ⟨t, .i32⟩} {a b c : TRef sig ⟨S_, .i32⟩} {n : BitVec 32} {hb hb' hb''}
    (h : Fix W (TRef.unary a k₁ (broadcastInDim t ![] hb) :: TRef.binary x k₁ u addi :: TRef.unary b k₂ (broadcastInDim t ![] hb')
      :: TRef.binary y k₂ w addi :: TRef.nullary c (constantI S_ 32 n) :: TRef.unary c k₃ (broadcastInDim t ![] hb'')
      :: TRef.binary w k₃ v addi :: ops)) :
    (∀ i, ((rd W u i, rd W v i) : Pair) = inj (rd W a s0) (rd W b s0) n (rd W x i, rd W y i)) ∧ Fix W ops := by
  obtain ⟨e1, h⟩ := h.unary
  obtain ⟨e2, h⟩ := h.binary
  obtain ⟨e3, h⟩ := h.unary
  obtain ⟨e4, h⟩ := h.binary
  obtain ⟨e5, h⟩ := h.nullary
  obtain ⟨e6, h⟩ := h.unary
  obtain ⟨e7, h⟩ := h.binary
  refine ⟨fun i => ?_, h⟩
  have hu : rd W u i = (rd W x i + rd W a s0 : BitVec 32) := by
    rw [e2, e1]
    exact congrArg (_ + ·) (spread hb (rd W a) i)
  have hw : rd W w i = (rd W y i + rd W b s0 : BitVec 32) := by
    rw [e4, e3]
    exact congrArg (_ + ·) (spread hb' (rd W b) i)
  have hv : rd W v i = (rd W w i + n : BitVec 32) := by
    rw [e7, e6, e5]
    exact congrArg (_ + ·) (spread hb'' (constantI S_ 32 n) i)
  rw [hv, hw, hu]
  exact congrArg (Prod.mk _) (BitVec.add_assoc ..)

/-- The generator on a counter per element. -/
theorem field_fix {a b : TRef sig ⟨S_, .i32⟩} {x y : TRef sig ⟨S8x16384x26, .i32⟩} {φ : fn_threefry2x32_0.Bufs}
    (h : Fix W (RefCode.field a b x y φ).ops) (i : S8x16384x26.Idx) :
    ((rd W φ.v171 i, rd W φ.v175 i) : Pair) = tf (rd W a s0) (rd W b s0) (rd W x i) (rd W y i) := by
  obtain ⟨e1, h⟩ := Fix.binary h
  obtain ⟨e2, h⟩ := h.nullary
  obtain ⟨e3, h⟩ := h.binary
  obtain ⟨e4, h⟩ := h.unary
  obtain ⟨e5, h⟩ := h.binary
  obtain ⟨e6, h⟩ := h.unary
  obtain ⟨e7, h⟩ := h.binary
  obtain ⟨r1, h⟩ := round h (by decide) (by decide)
  obtain ⟨r2, h⟩ := round h (by decide) (by decide)
  obtain ⟨r3, h⟩ := round h (by decide) (by decide)
  obtain ⟨r4, h⟩ := round h (by decide) (by decide)
  obtain ⟨j1, h⟩ := inject h
  obtain ⟨r5, h⟩ := round h (by decide) (by decide)
  obtain ⟨r6, h⟩ := round h (by decide) (by decide)
  obtain ⟨r7, h⟩ := round h (by decide) (by decide)
  obtain ⟨r8, h⟩ := round h (by decide) (by decide)
  obtain ⟨j2, h⟩ := inject h
  obtain ⟨r9, h⟩ := round h (by decide) (by decide)
  obtain ⟨r10, h⟩ := round h (by decide) (by decide)
  obtain ⟨r11, h⟩ := round h (by decide) (by decide)
  obtain ⟨r12, h⟩ := round h (by decide) (by decide)
  obtain ⟨j3, h⟩ := inject h
  obtain ⟨r13, h⟩ := round h (by decide) (by decide)
  obtain ⟨r14, h⟩ := round h (by decide) (by decide)
  obtain ⟨r15, h⟩ := round h (by decide) (by decide)
  obtain ⟨r16, h⟩ := round h (by decide) (by decide)
  obtain ⟨j4, h⟩ := inject h
  obtain ⟨r17, h⟩ := round h (by decide) (by decide)
  obtain ⟨r18, h⟩ := round h (by decide) (by decide)
  obtain ⟨r19, h⟩ := round h (by decide) (by decide)
  obtain ⟨r20, h⟩ := round h (by decide) (by decide)
  obtain ⟨j5, -⟩ := inject h
  have hk : rd W φ.v1 s0 = parity (rd W a s0) (rd W b s0) := by rw [e3, e1, e2]; rfl
  have hx : rd W φ.v3 i = (rd W x i + rd W a s0 : BitVec 32) := by
    rw [e5, e4]
    exact congrArg (_ + ·) (spread _ (rd W a) i)
  have hy : rd W φ.v5 i = (rd W y i + rd W b s0 : BitVec 32) := by
    rw [e7, e6]
    exact congrArg (_ + ·) (spread _ (rd W b) i)
  rw [j5 i, r20 i, quadA_of (r17 i) (r18 i) (r19 i), j4 i, r16 i, quadB_of (r13 i) (r14 i) (r15 i), j3 i, r12 i,
    quadA_of (r9 i) (r10 i) (r11 i), j2 i, r8 i, quadB_of (r5 i) (r6 i) (r7 i), j1 i, r4 i, quadA_of (r1 i) (r2 i) (r3 i),
    hk, hx, hy]
  rfl

/-- The generator on two counters. -/
theorem pair_fix {a b : TRef sig ⟨S_, .i32⟩} {x y : TRef sig ⟨S2, .i32⟩} {φ : fn_threefry2x32.Bufs}
    (h : Fix W (RefCode.pair a b x y φ).ops) (i : S2.Idx) :
    ((rd W φ.v171 i, rd W φ.v175 i) : Pair) = tf (rd W a s0) (rd W b s0) (rd W x i) (rd W y i) := by
  obtain ⟨e1, h⟩ := Fix.binary h
  obtain ⟨e2, h⟩ := h.nullary
  obtain ⟨e3, h⟩ := h.binary
  obtain ⟨e4, h⟩ := h.unary
  obtain ⟨e5, h⟩ := h.binary
  obtain ⟨e6, h⟩ := h.unary
  obtain ⟨e7, h⟩ := h.binary
  obtain ⟨r1, h⟩ := round h (by decide) (by decide)
  obtain ⟨r2, h⟩ := round h (by decide) (by decide)
  obtain ⟨r3, h⟩ := round h (by decide) (by decide)
  obtain ⟨r4, h⟩ := round h (by decide) (by decide)
  obtain ⟨j1, h⟩ := inject h
  obtain ⟨r5, h⟩ := round h (by decide) (by decide)
  obtain ⟨r6, h⟩ := round h (by decide) (by decide)
  obtain ⟨r7, h⟩ := round h (by decide) (by decide)
  obtain ⟨r8, h⟩ := round h (by decide) (by decide)
  obtain ⟨j2, h⟩ := inject h
  obtain ⟨r9, h⟩ := round h (by decide) (by decide)
  obtain ⟨r10, h⟩ := round h (by decide) (by decide)
  obtain ⟨r11, h⟩ := round h (by decide) (by decide)
  obtain ⟨r12, h⟩ := round h (by decide) (by decide)
  obtain ⟨j3, h⟩ := inject h
  obtain ⟨r13, h⟩ := round h (by decide) (by decide)
  obtain ⟨r14, h⟩ := round h (by decide) (by decide)
  obtain ⟨r15, h⟩ := round h (by decide) (by decide)
  obtain ⟨r16, h⟩ := round h (by decide) (by decide)
  obtain ⟨j4, h⟩ := inject h
  obtain ⟨r17, h⟩ := round h (by decide) (by decide)
  obtain ⟨r18, h⟩ := round h (by decide) (by decide)
  obtain ⟨r19, h⟩ := round h (by decide) (by decide)
  obtain ⟨r20, h⟩ := round h (by decide) (by decide)
  obtain ⟨j5, -⟩ := inject h
  have hk : rd W φ.v1 s0 = parity (rd W a s0) (rd W b s0) := by rw [e3, e1, e2]; rfl
  have hx : rd W φ.v3 i = (rd W x i + rd W a s0 : BitVec 32) := by
    rw [e5, e4]
    exact congrArg (_ + ·) (spread _ (rd W a) i)
  have hy : rd W φ.v5 i = (rd W y i + rd W b s0 : BitVec 32) := by
    rw [e7, e6]
    exact congrArg (_ + ·) (spread _ (rd W b) i)
  rw [j5 i, r20 i, quadA_of (r17 i) (r18 i) (r19 i), j4 i, r16 i, quadB_of (r13 i) (r14 i) (r15 i), j3 i, r12 i,
    quadA_of (r9 i) (r10 i) (r11 i), j2 i, r8 i, quadB_of (r5 i) (r6 i) (r7 i), j1 i, r4 i, quadA_of (r1 i) (r2 i) (r3 i),
    hk, hx, hy]
  rfl

end Cert.RefFix

end
-- ==== Proof.RefKeys.lean ====
/- The reference's keys and counters, as facts about words at an index. -/
module

public import proofs.«01_k».proof.Proof.RefFix
public import Idealize.ShloMosaic.Lib.PointwiseCore
public import Idealize.ShloMosaic.Lib.Pointwise.Reshape

@[expose] public section

noncomputable section

namespace Cert.RefFix

open Idealize.ShloMosaic Idealize.ShloMosaic.StableHlo Idealize.SL.Sem Cert.ReferenceIdeal Cert.ReferenceIdeal.Facts₀ Cert.Line Cert.Words

variable {F : FTy → Type} [FloatOps F] {W : Valuation τ sig (Elt F)} {ops : List (HloOp τ sig (Elt F))}

/-- The two words of a key, each cut out and made a scalar. -/
theorem words {k : TRef sig ⟨S2, .i32⟩} {u v : TRef sig ⟨S1, .i32⟩} {a b : TRef sig ⟨S_, .i32⟩}
    (h : Fix W (TRef.unary k u (extractStridedSlice S1 ![0] · slices_S2_S1_0) :: TRef.reshape u a rfl shapeCasts_S1_S_
      :: TRef.unary k v (extractStridedSlice S1 ![1] · slices_S2_S1_1) :: TRef.reshape v b rfl shapeCasts_S1_S_ :: ops)) :
    rd W a s0 = rd W k (ix1 0) ∧ rd W b s0 = rd W k (ix1 1) ∧ Fix W ops := by
  obtain ⟨e1, h⟩ := h.unary
  obtain ⟨e2, h⟩ := h.reshape
  obtain ⟨e3, h⟩ := h.unary
  obtain ⟨e4, h⟩ := h.reshape
  have one : ∀ j : S1.Idx, (j 0).val = 0 := fun j => by have := (j 0).isLt; simpa using this
  refine ⟨?_, ?_, h⟩
  · rw [e2, e1]
    refine congrArg (rd W k) (funext fun x => Fin.ext ?_)
    obtain rfl : x = 0 := Subsingleton.elim (α := Fin 1) _ _
    exact (Nat.zero_add _).trans (one _)
  · rw [e4, e3]
    refine congrArg (rd W k) (funext fun x => Fin.ext ?_)
    obtain rfl : x = 0 := Subsingleton.elim (α := Fin 1) _ _
    exact congrArg (1 + ·) (one _)

/-- The two keys of a split, each a row of the pair. -/
theorem rows {m : TRef sig ⟨S2x2, .i32⟩} {u v : TRef sig ⟨S1x2, .i32⟩} {a b : TRef sig ⟨S2, .i32⟩}
    (h : Fix W (TRef.unary m u (extractStridedSlice S1x2 ![0, 0] · slices_S2x2_S1x2_0_0) :: TRef.reshape u a rfl shapeCasts_S1x2_S2
      :: TRef.unary m v (extractStridedSlice S1x2 ![1, 0] · slices_S2x2_S1x2_1_0) :: TRef.reshape v b rfl shapeCasts_S1x2_S2 :: ops)) :
    (∀ c, rd W a (ix1 c) = rd W m (ix2 0 c)) ∧ (∀ c, rd W b (ix1 c) = rd W m (ix2 1 c)) ∧ Fix W ops := by
  obtain ⟨e1, h⟩ := h.unary
  obtain ⟨e2, h⟩ := h.reshape
  obtain ⟨e3, h⟩ := h.unary
  obtain ⟨e4, h⟩ := h.reshape
  refine ⟨fun c => ?_, fun c => ?_, h⟩
  · rw [e2, e1]
    pointwise
  · rw [e4, e3]
    pointwise

/-- A small 64-bit number's lower word. -/
theorem low (n : ℕ) : (BitVec.ofNat 64 n).setWidth 32 = BitVec.ofNat 32 n := by
  apply BitVec.eq_of_toNat_eq
  simp [BitVec.toNat_setWidth]

/-- A small 64-bit number's upper word. -/
theorem high (n : ℕ) (h : n < 4294967296) : (BitVec.ofNat 64 n >>> 32#64).setWidth 32 = 0#32 := by
  apply BitVec.eq_of_toNat_eq
  simp [BitVec.toNat_setWidth, Nat.shiftRight_eq_div_pow]
  omega

/-- The row-major number of an element. -/
def flat (i : S8x16384x26.Idx) : ℕ := 425984 * (i 0).val + 26 * (i 1).val + (i 2).val

theorem flat_lt (i : S8x16384x26.Idx) : flat i < 3407872 := by
  have h0 : (i 0).val < 8 := (i 0).isLt
  have h1 : (i 1).val < 16384 := (i 1).isLt
  have h2 : (i 2).val < 26 := (i 2).isLt
  unfold flat
  omega

/-- The counters: an element's row-major number, as an upper and a lower word. -/
theorem counters {p₀ p₁ p₂ b₀ q₀ b₁ q₁ b₂ q₂ s t d e : TRef sig ⟨S8x16384x26, .i64⟩} {c₀ c₁ c₂ c₃ : TRef sig ⟨S_, .i64⟩}
    {lo hi : TRef sig ⟨S8x16384x26, .i32⟩}
    (h : Fix W (TRef.nullary p₀ (iotaInDim S8x16384x26 64 0) :: TRef.nullary p₁ (iotaInDim S8x16384x26 64 1)
      :: TRef.nullary p₂ (iotaInDim S8x16384x26 64 2)
      :: TRef.nullary c₀ (constantI S_ 64 425984#64) :: TRef.unary c₀ b₀ (broadcastInDim S8x16384x26 ![] bcast_S_S8x16384x26)
      :: TRef.binary b₀ p₀ q₀ muli
      :: TRef.nullary c₁ (constantI S_ 64 26#64) :: TRef.unary c₁ b₁ (broadcastInDim S8x16384x26 ![] bcast_S_S8x16384x26)
      :: TRef.binary b₁ p₁ q₁ muli
      :: TRef.nullary c₂ (constantI S_ 64 1#64) :: TRef.unary c₂ b₂ (broadcastInDim S8x16384x26 ![] bcast_S_S8x16384x26)
      :: TRef.binary b₂ p₂ q₂ muli
      :: TRef.binary q₀ q₁ s addi :: TRef.binary s q₂ t addi
      :: TRef.nullary c₃ (constantI S_ 64 32#64) :: TRef.unary c₃ d (broadcastInDim S8x16384x26 ![] bcast_S_S8x16384x26)
      :: TRef.binary t d e Host.shrui :: TRef.unary t lo (trunci 32 · natLt_32_64) :: TRef.unary e hi (trunci 32 · natLt_32_64)
      :: ops)) :
    (∀ i, rd W hi i = 0#32 ∧ rd W lo i = BitVec.ofNat 32 (flat i)) ∧ Fix W ops := by
  obtain ⟨e1, h⟩ := h.nullary
  obtain ⟨e2, h⟩ := h.nullary
  obtain ⟨e3, h⟩ := h.nullary
  obtain ⟨e4, h⟩ := h.nullary
  obtain ⟨e5, h⟩ := h.unary
  obtain ⟨e6, h⟩ := h.binary
  obtain ⟨e7, h⟩ := h.nullary
  obtain ⟨e8, h⟩ := h.unary
  obtain ⟨e9, h⟩ := h.binary
  obtain ⟨e10, h⟩ := h.nullary
  obtain ⟨e11, h⟩ := h.unary
  obtain ⟨e12, h⟩ := h.binary
  obtain ⟨e13, h⟩ := h.binary
  obtain ⟨e14, h⟩ := h.binary
  obtain ⟨e15, h⟩ := h.nullary
  obtain ⟨e16, h⟩ := h.unary
  obtain ⟨e17, h⟩ := h.binary
  obtain ⟨e18, h⟩ := h.unary
  obtain ⟨e19, h⟩ := h.unary
  refine ⟨fun i => ?_, h⟩
  have ht : rd W t i = BitVec.ofNat 64 (flat i) := by
    rw [e14, e13, e12, e11, e10, e9, e8, e7, e6, e5, e4, e3, e2, e1]
    show broadcastInDim S8x16384x26 ![] bcast_S_S8x16384x26 (constantI S_ 64 425984#64) i * BitVec.ofNat 64 (i 0).val
      + broadcastInDim S8x16384x26 ![] bcast_S_S8x16384x26 (constantI S_ 64 26#64) i * BitVec.ofNat 64 (i 1).val
      + broadcastInDim S8x16384x26 ![] bcast_S_S8x16384x26 (constantI S_ 64 1#64) i * BitVec.ofNat 64 (i 2).val = _
    rw [spread, spread, spread]
    show BitVec.ofNat 64 425984 * _ + BitVec.ofNat 64 26 * _ + BitVec.ofNat 64 1 * _ = _
    rw [← BitVec.ofNat_mul, ← BitVec.ofNat_mul, ← BitVec.ofNat_mul, ← BitVec.ofNat_add, ← BitVec.ofNat_add, Nat.one_mul]
    rfl
  have he : rd W e i = BitVec.ofNat 64 (flat i) >>> 32#64 := by
    rw [e17, e16, e15, ← ht]
    show IntOp.shrui .host _ (broadcastInDim S8x16384x26 ![] bcast_S_S8x16384x26 (constantI S_ 64 32#64) i) = _
    rw [spread]
    exact if_pos (by decide)
  constructor
  · rw [e19]
    show (rd W e i : BitVec 64).setWidth 32 = _
    rw [he, high _ (by have := flat_lt i; omega)]
  · rw [e18]
    show (rd W t i : BitVec 64).setWidth 32 = _
    rw [ht, low]

/-- A key's split: row `r` is the generator's pair at counter `r`. -/
theorem split_fix {k : TRef sig ⟨S2, .i32⟩} {u v : TRef sig ⟨S1, .i32⟩} {a b : TRef sig ⟨S_, .i32⟩} {p q m d e : TRef sig ⟨S2, .i64⟩}
    {c₀ c₁ : TRef sig ⟨S_, .i64⟩} {lo hi : TRef sig ⟨S2, .i32⟩} {φ : fn_threefry2x32.Bufs} {x y : TRef sig ⟨S2x1, .i32⟩}
    {z : TRef sig ⟨S2x2, .i32⟩}
    (h : Fix W (TRef.unary k u (extractStridedSlice S1 ![0] · slices_S2_S1_0) :: TRef.reshape u a rfl shapeCasts_S1_S_
      :: TRef.unary k v (extractStridedSlice S1 ![1] · slices_S2_S1_1) :: TRef.reshape v b rfl shapeCasts_S1_S_
      :: TRef.nullary p (iotaInDim S2 64 0) :: TRef.nullary c₀ (constantI S_ 64 1#64)
      :: TRef.unary c₀ q (broadcastInDim S2 ![] bcast_S_S2) :: TRef.binary q p m muli
      :: TRef.nullary c₁ (constantI S_ 64 32#64) :: TRef.unary c₁ d (broadcastInDim S2 ![] bcast_S_S2)
      :: TRef.binary m d e Host.shrui :: TRef.unary m lo (trunci 32 · natLt_32_64) :: TRef.unary e hi (trunci 32 · natLt_32_64)
      :: ((RefCode.pair a b hi lo φ).ops ++ (TRef.unary φ.v171 x (broadcastInDim S2x1 ![0] bcast_S2_S2x1_0)
        :: TRef.unary φ.v175 y (broadcastInDim S2x1 ![0] bcast_S2_S2x1_0)
        :: TRef.binary x y z (fun a b => concatenate S2x2 1 [⟨S2x1, a⟩, ⟨S2x1, b⟩] concatenates_S2x1_S2x1_S2x2_d1) :: ops)))) :
    (∀ r : Fin 2, ((rd W z (ix2 r 0), rd W z (ix2 r 1)) : Pair)
      = tf (rd W k (ix1 0)) (rd W k (ix1 1)) 0#32 (BitVec.ofNat 32 r.val)) ∧ Fix W ops := by
  obtain ⟨ea, eb, h⟩ := words h
  obtain ⟨e1, h⟩ := h.nullary
  obtain ⟨e2, h⟩ := h.nullary
  obtain ⟨e3, h⟩ := h.unary
  obtain ⟨e4, h⟩ := h.binary
  obtain ⟨e5, h⟩ := h.nullary
  obtain ⟨e6, h⟩ := h.unary
  obtain ⟨e7, h⟩ := h.binary
  obtain ⟨e8, h⟩ := h.unary
  obtain ⟨e9, h⟩ := h.unary
  obtain ⟨hp, h⟩ := (fix_append ..).mp h
  obtain ⟨e10, h⟩ := h.unary
  obtain ⟨e11, h⟩ := h.unary
  obtain ⟨e12, h⟩ := h.binary
  refine ⟨fun r => ?_, h⟩
  have ht : rd W m (ix1 r) = BitVec.ofNat 64 r.val := by
    rw [e4, e3, e2, e1]
    show broadcastInDim S2 ![] bcast_S_S2 (constantI S_ 64 1#64) (ix1 r) * BitVec.ofNat 64 r.val = _
    rw [spread]
    exact BitVec.one_mul _
  have he : rd W e (ix1 r) = BitVec.ofNat 64 r.val >>> 32#64 := by
    rw [e7, e6, e5, ← ht]
    show IntOp.shrui .host _ (broadcastInDim S2 ![] bcast_S_S2 (constantI S_ 64 32#64) (ix1 r)) = _
    rw [spread]
    exact if_pos (by decide)
  have hhi : rd W hi (ix1 r) = 0#32 := by
    rw [e9]
    show (rd W e (ix1 r) : BitVec 64).setWidth 32 = _
    rw [he, high _ (by have := r.isLt; omega)]
  have hlo : rd W lo (ix1 r) = BitVec.ofNat 32 r.val := by
    rw [e8]
    show (rd W m (ix1 r) : BitVec 64).setWidth 32 = _
    rw [ht, low]
  have hz0 : rd W z (ix2 r 0) = rd W φ.v171 (ix1 r) := by
    rw [e12, e10]
    pointwise
  have hz1 : rd W z (ix2 r 1) = rd W φ.v175 (ix1 r) := by
    rw [e12, e11]
    pointwise
  rw [hz0, hz1, pair_fix hp (ix1 r), ea, eb, hhi, hlo]

end Cert.RefFix

end
-- ==== Proof.Chance.lean ====
/- The mask's float comparison on the extended reals, as an unsigned comparison of the word it is drawn from. -/
module

public import Idealize.ShloMosaic.PureOps.Ideal.Laws
public import Idealize.ShloMosaic.Lib.IdealHost

@[expose] public section

noncomputable section

namespace Cert.Chance

open Idealize.ShloMosaic

/-- The word of the draw: its upper 23 bits as the fraction of a float in [1, 2). -/
def unit (w : BitVec 32) : BitVec 32 := w >>> 9#32 ||| 1065353216#32

theorem unit_fraction (w : BitVec 32) : ((unit w).extractLsb' 0 23).toNat = w.toNat / 512 := by
  have hc : ∀ i < 23, (1065353216#32).getLsbD i = false := by decide
  have e : (unit w).extractLsb' 0 23 = (w >>> 9).setWidth 23 := by
    apply BitVec.eq_of_getLsbD_eq
    intro i hi
    simp [unit, hi, hc i hi]
  rw [e, BitVec.toNat_setWidth, BitVec.toNat_ushiftRight, Nat.shiftRight_eq_div_pow]
  have := w.isLt
  omega

theorem unit_exponent (w : BitVec 32) : (unit w).extractLsb' 23 8 = 127#8 := by
  apply BitVec.eq_of_getLsbD_eq
  intro i hi
  have hc : ∀ i < 8, (1065353216#32).getLsbD (23 + i) = (127#8).getLsbD i := by decide
  have hw : w.getLsbD (9 + (23 + i)) = false := BitVec.getLsbD_of_ge _ _ (by omega)
  rw [BitVec.getLsbD_extractLsb', unit, BitVec.getLsbD_or, hc i hi]
  simp [hi, hw]

theorem unit_sign (w : BitVec 32) : (unit w).extractLsb' 31 1 = 0#1 := by
  apply BitVec.eq_of_getLsbD_eq
  intro i hi
  have h0 : i = 0 := by omega
  subst h0
  have hw : w.getLsbD (9 + 31) = false := BitVec.getLsbD_of_ge _ _ (by omega)
  simp [unit, hw]

/-- The draw's word denotes one and as many 2⁻²³ as its upper 23 bits count. -/
theorem unit_value (w : BitVec 32) :
    Ideal.ofBits .f32 (unit w) = ((1 + (w.toNat / 512 : ℕ) / 8388608 : ℝ) : EReal) := by
  have hs := unit_sign w
  have he := unit_exponent w
  have hf := unit_fraction w
  simp only [Ideal.ofBits, Ideal.ieee, Nat.reduceAdd, hs, he, hf]
  rw [if_neg (by decide), if_neg (by decide)]
  refine congrArg Real.toEReal ?_
  norm_num
  ring

/-- The threshold's value. -/
theorem tenth_value : Ideal.ofBits .f32 0x3DCCCCCD#32 = ((13421773 / 134217728 : ℝ) : EReal) := by
  simp [Ideal.ofBits, Ideal.ieee, -EReal.coe_mul]; norm_num

/-- The draw, scaled from [0, 1) and clamped from below, is under the threshold just where its word is under 429496832. -/
theorem draw (w : BitVec 32) :
    Ideal.cmp .olt (max (Ideal.ofBits .f32 0x00000000#32)
        ((Ideal.ofBits .f32 (unit w) - Ideal.ofBits .f32 0x3F800000#32)
          * (Ideal.ofBits .f32 0x3F800000#32 - Ideal.ofBits .f32 0x00000000#32) + Ideal.ofBits .f32 0x00000000#32))
      (Ideal.ofBits .f32 0x3DCCCCCD#32) = BitVec.ofBool (w.ult 429496832#32) := by
  rw [tenth_value, unit_value, Ideal.ofBits_one_f32, Ideal.ofBits_zero_f32]
  have e : max (0 : EReal) ((((1 + (w.toNat / 512 : ℕ) / 8388608 : ℝ) : EReal) - 1) * (1 - 0) + 0)
      = (((w.toNat / 512 : ℕ) / 8388608 : ℝ) : EReal) := by
    rw [← EReal.coe_one, ← EReal.coe_zero, ← EReal.coe_sub, ← EReal.coe_sub, ← EReal.coe_mul, ← EReal.coe_add]
    rw [max_eq_right]
    · congr 1; ring
    · rw [EReal.coe_le_coe_iff]
      have : (0 : ℝ) ≤ (w.toNat / 512 : ℕ) / 8388608 := by positivity
      linarith
  rw [e]
  unfold Ideal.cmp
  congr 1
  rw [BitVec.ult, decide_eq_decide, EReal.coe_lt_coe_iff, div_lt_div_iff₀ (by norm_num) (by norm_num)]
  norm_cast
  show _ ↔ w.toNat < 429496832
  omega

end Cert.Chance

end
-- ==== Proof.RefDraws.lean ====
/- The reference's mask and flips, as facts about words at an index. -/
module

public import proofs.«01_k».proof.Proof.RefKeys
public import proofs.«01_k».proof.Proof.Chance

@[expose] public section

noncomputable section

namespace Cert.RefFix

open Idealize.ShloMosaic Idealize.ShloMosaic.StableHlo Idealize.SL.Sem Cert.ReferenceIdeal Cert.ReferenceIdeal.Facts₀ Cert.Line Cert.Words

/-- The word a key draws at an element. -/
def bits (a b : BitVec 32) (i : S8x16384x26.Idx) : BitVec 32 :=
  (tf a b 0#32 (BitVec.ofNat 32 (flat i))).1 ^^^ (tf a b 0#32 (BitVec.ofNat 32 (flat i))).2

/-- One value spread over an array is that value everywhere. -/
theorem spread1 {α : Type} {x : S1x1x1.Idx → α} {c : α} (hx : ∀ j, x j = c) (h : S1x1x1.BroadcastsInDim S8x16384x26 ![0, 1, 2])
    (i : S8x16384x26.Idx) : broadcastInDim S8x16384x26 ![0, 1, 2] h x i = c := hx _

section Words
variable {F : FTy → Type} [FloatOps F] {W : Valuation τ sig (Elt F)} {ops : List (HloOp τ sig (Elt F))}

/-- The words drawn from a key: the generator's pair at the counter, mixed. -/
theorem field_bits {a b : TRef sig ⟨S_, .i32⟩} {hi lo o : TRef sig ⟨S8x16384x26, .i32⟩} {φ : fn_threefry2x32_0.Bufs} {x y : BitVec 32}
    (h : Fix W ((RefCode.field a b hi lo φ).ops ++ (TRef.binary φ.v171 φ.v175 o xori :: ops)))
    (hc : ∀ i, rd W hi i = 0#32 ∧ rd W lo i = BitVec.ofNat 32 (flat i)) (ha : rd W a s0 = x) (hb : rd W b s0 = y) :
    (∀ i, rd W o i = bits x y i) ∧ Fix W ops := by
  obtain ⟨hf, h⟩ := (fix_append ..).mp h
  obtain ⟨e, h⟩ := h.binary
  refine ⟨fun i => ?_, h⟩
  have g := field_fix hf i
  rw [ha, hb, (hc i).1, (hc i).2] at g
  rw [e, bits, ← g]
  rfl

end Words

variable {W : Valuation τ sig (Elt Ideal)}

/-- The uniform draws on the extended reals. -/
theorem uniform_fix {k : TRef sig ⟨S2, .i32⟩} {lo hi : TRef sig ⟨S_, .f32⟩} {φ : fn_uniform.Bufs}
    (h : Fix W (RefCode.uniform k lo hi φ).ops) {l u : EReal} (hl : rd W lo s0 = l) (hu : rd W hi s0 = u) (i : S8x16384x26.Idx) :
    (rd W φ.v38 i : EReal) = max l ((Ideal.ofBits .f32 (Chance.unit (bits (rd W k (ix1 0)) (rd W k (ix1 1)) i))
      - Ideal.ofBits .f32 0x3F800000#32) * (u - l) + l) := by
  obtain ⟨e1, h⟩ := Fix.unary h
  obtain ⟨e2, h⟩ := h.unary
  obtain ⟨e3, h⟩ := h.unary
  obtain ⟨e4, h⟩ := h.unary
  obtain ⟨ea, eb, h⟩ := words h
  obtain ⟨hc, h⟩ := counters h
  obtain ⟨hw, h⟩ := field_bits h hc ea eb
  obtain ⟨e5, h⟩ := h.nullary
  obtain ⟨e6, h⟩ := h.unary
  obtain ⟨e7, h⟩ := h.binary
  obtain ⟨e8, h⟩ := h.nullary
  obtain ⟨e9, h⟩ := h.unary
  obtain ⟨e10, h⟩ := h.binary
  obtain ⟨e11, h⟩ := h.unary
  obtain ⟨e12, h⟩ := h.nullary
  obtain ⟨e13, h⟩ := h.unary
  obtain ⟨e14, h⟩ := h.binary
  obtain ⟨e15, h⟩ := h.binary
  obtain ⟨e16, h⟩ := h.unary
  obtain ⟨e17, h⟩ := h.binary
  obtain ⟨e18, h⟩ := h.unary
  obtain ⟨e19, h⟩ := h.binary
  obtain ⟨e20, h⟩ := h.unary
  obtain ⟨e21, h⟩ := h.binary
  have v2 : ∀ j, rd W φ.v2 j = l := fun j => by rw [e3, e1, spread]; exact hl
  have v3 : ∀ j, rd W φ.v3 j = u := fun j => by rw [e4, e2, spread]; exact hu
  have v32 : ∀ j, rd W φ.v32 j = (u - l : EReal) := fun j => by rw [e15, ← v3 j, ← v2 j]; rfl
  have v26 : rd W φ.v26 i = bits (rd W k (ix1 0)) (rd W k (ix1 1)) i >>> 9#32 := by
    rw [e7, e6, e5, ← hw i]
    show IntOp.shrui .host _ (broadcastInDim S8x16384x26 ![] bcast_S_S8x16384x26 (constantI S_ 32 9#32) i) = _
    rw [spread]
    exact if_pos (by decide)
  have v28 : rd W φ.v28 i = Chance.unit (bits (rd W k (ix1 0)) (rd W k (ix1 1)) i) := by
    rw [e10, e9, e8, Chance.unit, ← v26]
    exact congrArg (_ ||| ·) (spread _ _ i)
  have v31 : (rd W φ.v31 i : EReal)
      = Ideal.ofBits .f32 (Chance.unit (bits (rd W k (ix1 0)) (rd W k (ix1 1)) i)) - Ideal.ofBits .f32 0x3F800000#32 := by
    rw [e14, e13, e12, e11, ← v28]
    exact congrArg (Ideal.ofBits .f32 (rd W φ.v28 i) - ·) (spread _ _ i)
  have v33 : (rd W φ.v33 i : EReal) = u - l := by rw [e16]; exact spread1 v32 _ i
  have v35 : (rd W φ.v35 i : EReal) = l := by rw [e18]; exact spread1 v2 _ i
  have v37 : (rd W φ.v37 i : EReal) = l := by rw [e20]; exact spread1 v2 _ i
  have v34 : (rd W φ.v34 i : EReal) = (rd W φ.v31 i : EReal) * (rd W φ.v33 i : EReal) := by rw [e17]; rfl
  have v36 : (rd W φ.v36 i : EReal) = (rd W φ.v34 i : EReal) + (rd W φ.v35 i : EReal) := by rw [e19]; rfl
  have v38 : (rd W φ.v38 i : EReal) = max (rd W φ.v37 i : EReal) (rd W φ.v36 i : EReal) := by rw [e21]; rfl
  rw [v38, v37, v36, v34, v35, v33, v31]

/-- The mask: an element is kept just where the word drawn for it is under 429496832. -/
theorem bernoulli_fix {k : TRef sig ⟨S2, .i32⟩} {p : TRef sig ⟨S_, .f32⟩} {φ : fn_bernoulli.Bufs}
    (h : Fix W (RefCode.bernoulli k p φ).ops) (hp : rd W p s0 = Ideal.ofBits .f32 0x3DCCCCCD#32) (i : S8x16384x26.Idx) :
    rd W φ.v2 i = BitVec.ofBool ((bits (rd W k (ix1 0)) (rd W k (ix1 1)) i).ult 429496832#32) := by
  obtain ⟨e1, h⟩ := Fix.nullary h
  obtain ⟨e2, h⟩ := h.nullary
  obtain ⟨hf, h⟩ := (fix_append ..).mp h
  obtain ⟨e3, h⟩ := h.unary
  obtain ⟨e4, h⟩ := h.binary
  have g := uniform_fix hf (congrFun e1 s0) (congrFun e2 s0) i
  have hv : rd W φ.v1 i = Ideal.ofBits .f32 0x3DCCCCCD#32 := by rw [e3, spread]; exact hp
  rw [e4]
  show Ideal.cmp .olt (rd W φ.call0.v38 i) (rd W φ.v1 i) = _
  rw [hv, g]
  exact Chance.draw _

/-- The flips: the word drawn from the second key of the split, modulo the span. -/
theorem randint_fix {k : TRef sig ⟨S2, .i32⟩} {lo hi : TRef sig ⟨S_, .i32⟩} {φ : fn_randint.Bufs}
    (h : Fix W (RefCode.randint k lo hi φ).ops) (hlo : rd W lo s0 = 0#32) (hhi : rd W hi s0 = 100000#32) (i : S8x16384x26.Idx) :
    rd W φ.v81 i = bits (tf (rd W k (ix1 0)) (rd W k (ix1 1)) 0#32 1#32).1 (tf (rd W k (ix1 0)) (rd W k (ix1 1)) 0#32 1#32).2 i
      % 100000#32 := by
  obtain ⟨h, h'⟩ := (fix_append _ (RefCode.randint0 ..).ops (RefCode.randint1 ..).ops).mp h
  obtain ⟨e1, h⟩ := Fix.nullary h
  obtain ⟨e2, h⟩ := h.nullary
  obtain ⟨e3, h⟩ := h.nullary
  obtain ⟨h1, h⟩ := (fix_append ..).mp h
  obtain ⟨e4, h⟩ := h.binary
  obtain ⟨e5, h⟩ := h.nullary
  obtain ⟨e6, h⟩ := h.nullary
  obtain ⟨h2, h⟩ := (fix_append ..).mp h
  obtain ⟨e7, h⟩ := h.unary
  obtain ⟨e8, h⟩ := h.nullary
  obtain ⟨e9, h⟩ := h.nullary
  obtain ⟨h3, h⟩ := (fix_append ..).mp h
  obtain ⟨e10, h⟩ := h.unary
  obtain ⟨e11, h⟩ := h.unary
  obtain ⟨e12, h⟩ := h.unary
  obtain ⟨h4, h⟩ := (fix_append ..).mp h
  obtain ⟨hs, -⟩ := split_fix h4
  obtain ⟨-, hr, h⟩ := rows h
  obtain ⟨-, -, h⟩ := words h
  obtain ⟨-, h⟩ := counters h
  obtain ⟨-, h⟩ := (fix_append ..).mp h
  obtain ⟨-, h⟩ := h.binary
  obtain ⟨ea, eb, h⟩ := words h
  have h := (fix_append ..).mpr ⟨h, h'⟩
  obtain ⟨hc, h⟩ := counters h
  obtain ⟨hw, h⟩ := field_bits h hc ea eb
  obtain ⟨f55, h⟩ := h.binary
  obtain ⟨f56, h⟩ := h.unary
  obtain ⟨f57, h⟩ := h.binary
  obtain ⟨fc14, h⟩ := h.nullary
  obtain ⟨f58, h⟩ := h.unary
  obtain ⟨f59, h⟩ := h.ternary
  obtain ⟨f60, h⟩ := h.binary
  obtain ⟨f61, h⟩ := h.unary
  obtain ⟨f62, h⟩ := h.binary
  obtain ⟨fc15, h⟩ := h.nullary
  obtain ⟨f63, h⟩ := h.unary
  obtain ⟨f64, h⟩ := h.binary
  obtain ⟨f65, h⟩ := h.ternary
  obtain ⟨fc16, h⟩ := h.nullary
  obtain ⟨f66, h⟩ := h.unary
  obtain ⟨f67, h⟩ := h.binary
  obtain ⟨f68, h⟩ := h.binary
  obtain ⟨f69, h⟩ := h.binary
  obtain ⟨f70, h⟩ := h.unary
  obtain ⟨f71, h⟩ := h.binary
  obtain ⟨f72, h⟩ := h.unary
  obtain ⟨f73, h⟩ := h.binary
  obtain ⟨f74, h⟩ := h.unary
  obtain ⟨f75, h⟩ := h.binary
  obtain ⟨f76, h⟩ := h.binary
  obtain ⟨f77, h⟩ := h.unary
  obtain ⟨f78, h⟩ := h.binary
  obtain ⟨f79, h⟩ := h.unary
  obtain ⟨f80, h⟩ := h.unary
  obtain ⟨f81, h⟩ := h.binary
  obtain ⟨g1, h2⟩ := Fix.binary h2
  obtain ⟨g2, -⟩ := h2.binary
  obtain ⟨g3, h3⟩ := Fix.binary h3
  obtain ⟨g4, -⟩ := h3.binary
  obtain ⟨g5, h1⟩ := Fix.binary h1
  obtain ⟨g6, -⟩ := h1.binary
  -- the bounds
  have w0 : rd W φ.v1 s0 = 0#1 := by
    rw [e4, g6, g5, e1, e2, e3]
    show IntOp.cmpi .sgt (rd W hi s0) _ = _
    rw [hhi]; decide
  have w3 : rd W φ.v3 s0 = 0#32 := by
    rw [e7, g2, g1, e5, e6]
    show IntOp.minsi 2147483647#32 (IntOp.maxsi 2147483648#32 (rd W lo s0)) = _
    rw [hlo]; decide
  have w5 : rd W φ.v5 s0 = 100000#32 := by
    rw [e10, g4, g3, e8, e9]
    show IntOp.minsi 2147483647#32 (IntOp.maxsi 2147483648#32 (rd W hi s0)) = _
    rw [hhi]; decide
  have w6 : ∀ j, rd W φ.v6 j = 0#32 := fun j => by rw [e11, spread]; exact w3
  have w7 : ∀ j, rd W φ.v7 j = 100000#32 := fun j => by rw [e12, spread]; exact w5
  -- the span
  have w59 : ∀ j, rd W φ.v59 j = 100000#32 := fun j => by
    rw [f59, f57, f58, f56, f55, fc14]
    show (if IntOp.cmpi .sle (rd W φ.v7 j) (rd W φ.v6 j) = 1#1 then _ else (rd W φ.v7 j - rd W φ.v6 j : BitVec 32)) = _
    rw [w6, w7]; rfl
  have w62 : ∀ j, rd W φ.v62 j = 0#1 := fun j => by
    rw [f62, f61]
    show broadcastInDim S1x1x1 ![] bcast_S_S1x1x1 (rd W φ.v1) j &&& _ = _
    rw [spread, w0]; exact BitVec.zero_and
  have w65 : ∀ j, rd W φ.v65 j = 100000#32 := fun j => by
    rw [f65]
    show (if rd W φ.v62 j = 1#1 then _ else rd W φ.v59 j) = _
    rw [w62, w59]; rfl
  -- the multiplier
  have w67 : ∀ j, rd W φ.v67 j = 65536#32 := fun j => by
    rw [f67, f66, fc16]
    show IntOp.remui .host (broadcastInDim S1x1x1 ![] bcast_S_S1x1x1 (constantI S_ 32 65536#32) j) (rd W φ.v65 j) = _
    rw [spread, w65]; rfl
  have w69 : ∀ j, rd W φ.v69 j = 0#32 := fun j => by
    rw [f69, f68]
    show IntOp.remui .host (rd W φ.v67 j * rd W φ.v67 j : BitVec 32) (rd W φ.v65 j) = _
    rw [w67, w65]; rfl
  -- the draw
  have w75 : rd W φ.v75 i = rd W φ.v54 i % 100000#32 := by
    rw [f75, f74]
    show IntOp.remui .host (rd W φ.v54 i) (broadcastInDim S8x16384x26 ![0, 1, 2] _ (rd W φ.v65) i) = _
    rw [spread1 w65]; rfl
  have w76 : rd W φ.v76 i = rd W φ.v54 i % 100000#32 := by
    rw [f76, f73, f72, ← w75]
    show (rd W φ.v71 i * broadcastInDim S8x16384x26 ![0, 1, 2] _ (rd W φ.v69) i + rd W φ.v75 i : BitVec 32) = _
    rw [spread1 w69, BitVec.mul_zero, BitVec.zero_add]
  have w78 : rd W φ.v78 i = rd W φ.v54 i % 100000#32 := by
    rw [f78, f77]
    show IntOp.remui .host (rd W φ.v76 i) (broadcastInDim S8x16384x26 ![0, 1, 2] _ (rd W φ.v65) i) = _
    rw [spread1 w65, w76]
    refine (if_neg (by decide)).trans (BitVec.eq_of_toNat_eq ?_)
    simp
  have w81 : rd W φ.v81 i = rd W φ.v54 i % 100000#32 := by
    rw [f81, f80, f79, ← w78]
    show (broadcastInDim S8x16384x26 ![0, 1, 2] _ (rd W φ.v6) i + rd W φ.v78 i : BitVec 32) = _
    rw [spread1 w6, BitVec.zero_add]
  have k0 : (rd W φ.call3.v14 (ix2 1 0) : BitVec 32) = (tf (rd W k (ix1 0)) (rd W k (ix1 1)) 0#32 1#32).1 := congrArg Prod.fst (hs 1)
  have k1 : (rd W φ.call3.v14 (ix2 1 1) : BitVec 32) = (tf (rd W k (ix1 0)) (rd W k (ix1 1)) 0#32 1#32).2 := congrArg Prod.snd (hs 1)
  rw [w81, hw i, hr, hr, k0, k1]

end Cert.RefFix

end
-- ==== Proof.RefMain.lean ====
/- The reference's results, as functions of its argument. -/
module

public import proofs.«01_k».proof.Proof.RefDraws
public import proofs.«01_k».proof.Proof.RefRun

@[expose] public section

noncomputable section

namespace Cert.RefFix

open Idealize.ShloMosaic Idealize.ShloMosaic.StableHlo Idealize.SL.Sem Cert.ReferenceIdeal Cert.ReferenceIdeal.Facts₀ Cert.Line Cert.Words

/-- The mask's key, from the seed 42. -/
theorem mask_key : tf 0#32 42#32 0#32 0#32 = (1832780943#32, 270669613#32) := by decide +kernel

/-- The flips' key, from the seed 42. -/
theorem flip_key : tf (tf 0#32 42#32 0#32 1#32).1 (tf 0#32 42#32 0#32 1#32).2 0#32 1#32 = (2350016172#32, 1168365246#32) := by
  decide +kernel

/-- An element perturbed: kept where its mask word is under 429496832, else replaced by its flip. -/
def perturbed (x : BitVec 32) (i : S8x16384x26.Idx) : BitVec 32 :=
  if (bits 1832780943#32 270669613#32 i).ult 429496832#32 then x else bits 2350016172#32 1168365246#32 i % 100000#32

/-- A mask of one bit keeps one of two words. -/
theorem choose (c : Bool) (x y : BitVec 32) :
    (BitVec.ofBool c).setWidth 32 * x + (1#32 - (BitVec.ofBool c).setWidth 32) * y = if c then x else y := by
  cases c
  · show 0#32 * x + 1#32 * y = y
    rw [BitVec.zero_mul, BitVec.zero_add, BitVec.one_mul]
  · show 1#32 * x + 0#32 * y = x
    rw [BitVec.zero_mul, BitVec.add_zero, BitVec.one_mul]

variable {W : Valuation τ sig (Elt Ideal)}

/-- The reference's two results. -/
theorem main_fix (h : Fix W RefRun.code.ops) :
    W (Proc.devRef .tc main_v20) = concatenate S16x16384x26 0
        [⟨S8x16384x26, (W (Proc.devRef .tc main_arg0) : S8x16384x26.Idx → BitVec 32)⟩,
          ⟨S8x16384x26, fun i => perturbed ((W (Proc.devRef .tc main_arg0) : S8x16384x26.Idx → BitVec 32) i) i⟩]
        concatenates_S8x16384x26_S8x16384x26_S16x16384x26_d0
      ∧ W (Proc.devRef .tc main_cst_5) = (constant S_ .f32 0x00000000#32 : FVec Ideal S_ .f32) := by
  obtain ⟨e1, h⟩ := Fix.bare_nullary h
  obtain ⟨e2, h⟩ := h.bare_nullary
  obtain ⟨e3, h⟩ := h.bare_binary
  obtain ⟨e4, h⟩ := h.bare_unary
  obtain ⟨e5, h⟩ := h.bare_unary
  obtain ⟨e6, h⟩ := h.bare_nullary
  obtain ⟨e7, h⟩ := h.bare_binary
  obtain ⟨e8, h⟩ := h.bare_unary
  obtain ⟨e9, h⟩ := h.bare_unary
  obtain ⟨e10, h⟩ := h.bare_binary
  obtain ⟨hs, h⟩ := (fix_append ..).mp h
  obtain ⟨hs, -⟩ := split_fix hs
  obtain ⟨ha, hb, h⟩ := rows (m := .of main_v7) (u := .of main_v8) (a := .of main_v9) (v := .of main_v10) (b := .of main_v11) h
  obtain ⟨e11, h⟩ := h.bare_nullary
  obtain ⟨hm, h⟩ := (fix_append ..).mp h
  obtain ⟨e12, h⟩ := h.bare_unary
  obtain ⟨e13, h⟩ := h.bare_nullary
  obtain ⟨e14, h⟩ := h.bare_nullary
  obtain ⟨hr, h⟩ := (fix_append ..).mp h
  obtain ⟨e15, h⟩ := h.bare_binary
  obtain ⟨e16, h⟩ := h.bare_nullary
  obtain ⟨e17, h⟩ := h.bare_unary
  obtain ⟨e18, h⟩ := h.bare_binary
  obtain ⟨e19, h⟩ := h.bare_binary
  obtain ⟨e20, h⟩ := h.bare_binary
  obtain ⟨e21, h⟩ := h.bare_binary
  obtain ⟨e22, h⟩ := h.bare_nullary
  refine ⟨?_, e22⟩
  -- the seed's key
  have k2 : ∀ j, (W (Proc.devRef .tc main_v2) : S1.Idx → BitVec 32) j = 0#32 := fun j => by
    rw [e5, spread, e4, e3, e1, e2]; decide
  have k5 : ∀ j, (W (Proc.devRef .tc main_v5) : S1.Idx → BitVec 32) j = 42#32 := fun j => by
    rw [e9, spread, e8, e7, e1, e6]; decide
  have k60 : (rd W (.of main_v6) (ix1 0) : BitVec 32) = 0#32 := by
    show (W (Proc.devRef .tc main_v6) : S2.Idx → BitVec 32) (ix1 0) = _
    rw [e10, concatenate_pair_apply]
    exact (dif_pos (by decide)).trans (k2 _)
  have k61 : (rd W (.of main_v6) (ix1 1) : BitVec 32) = 42#32 := by
    show (W (Proc.devRef .tc main_v6) : S2.Idx → BitVec 32) (ix1 1) = _
    rw [e10, concatenate_pair_apply]
    exact (dif_neg (by decide)).trans (k5 _)
  -- the keys of the mask and of the flips
  have r0 := hs 0
  have r1 := hs 1
  rw [k60, k61] at r0 r1
  have m0 : (rd W (.of main_v9) (ix1 0) : BitVec 32) = 1832780943#32 :=
    (ha 0).trans ((congrArg Prod.fst r0).trans (congrArg Prod.fst mask_key))
  have m1 : (rd W (.of main_v9) (ix1 1) : BitVec 32) = 270669613#32 :=
    (ha 1).trans ((congrArg Prod.snd r0).trans (congrArg Prod.snd mask_key))
  have f0 : (rd W (.of main_v11) (ix1 0) : BitVec 32) = (tf 0#32 42#32 0#32 1#32).1 := (hb 0).trans (congrArg Prod.fst r1)
  have f1 : (rd W (.of main_v11) (ix1 1) : BitVec 32) = (tf 0#32 42#32 0#32 1#32).2 := (hb 1).trans (congrArg Prod.snd r1)
  -- the mask and the flips
  have hmask : ∀ i, (W (Proc.devRef .tc main_v12) : S8x16384x26.Idx → BitVec 1) i
      = BitVec.ofBool ((bits 1832780943#32 270669613#32 i).ult 429496832#32) := fun i => by
    have g := bernoulli_fix hm (congrFun e11 s0) i
    rw [m0, m1] at g
    exact g
  have hflip : ∀ i, (W (Proc.devRef .tc main_v14) : S8x16384x26.Idx → BitVec 32) i
      = bits 2350016172#32 1168365246#32 i % 100000#32 := fun i => by
    have g := randint_fix hr (congrFun e13 s0) (congrFun e14 s0) i
    rw [f0, f1, flip_key] at g
    exact g
  have h19 : (W (Proc.devRef .tc main_v19) : S8x16384x26.Idx → BitVec 32)
      = fun i => perturbed ((W (Proc.devRef .tc main_arg0) : S8x16384x26.Idx → BitVec 32) i) i := by
    funext i
    rw [e20, e15, e19, e18, e17, e16, e12]
    show (((W (Proc.devRef .tc main_v12) : S8x16384x26.Idx → BitVec 1) i).setWidth 32 * _
      + (broadcastInDim S8x16384x26 ![] bcast_S_S8x16384x26 (constantI S_ 32 1#32) i
        - ((W (Proc.devRef .tc main_v12) : S8x16384x26.Idx → BitVec 1) i).setWidth 32)
          * (W (Proc.devRef .tc main_v14) : S8x16384x26.Idx → BitVec 32) i : BitVec 32) = _
    rw [spread, hmask, hflip]
    exact choose ..
  rw [e21, h19]
  rfl

end Cert.RefFix

end
-- ==== Proof.Algebraic.lean ====
/- The kernel's results are the reference's. -/
module

public import proofs.«01_k».proof.Proof.KerArray
public import proofs.«01_k».proof.Proof.RefMain
public import proofs.«01_k».proof.Defs

@[expose] public section

noncomputable section

namespace Cert.Tie

open Idealize.ShloMosaic Idealize.ShloMosaic.StableHlo Idealize.SL.Sem Cert.KerWords

/-- The kernel's first result, its two halves reshaped, is the argument followed by the argument perturbed. -/
theorem halves_concat (x : KernelIdeal.S8x16384x26.Idx → BitVec 32) :
    (shapeCast KernelIdeal.S16x16384x26 (halves (F := Ideal) (shapeCast KernelIdeal.S131072x26 x KernelIdeal.Gen.shapeCasts_S8x16384x26_S131072x26))
        KernelIdeal.Gen.shapeCasts_S2x131072x26_S16x16384x26 : KernelIdeal.S16x16384x26.Idx → BitVec 32)
      = concatenate ReferenceIdeal.S16x16384x26 0
        [⟨ReferenceIdeal.S8x16384x26, x⟩, ⟨ReferenceIdeal.S8x16384x26, fun i => RefFix.perturbed (x i) i⟩]
        ReferenceIdeal.Gen.concatenates_S8x16384x26_S8x16384x26_S16x16384x26_d0 := by
  funext i
  pointwise
  have b0 : (i 0).val < 16 := (i 0).isLt
  have b1 : (i 1).val < 16384 := (i 1).isLt
  have b2 : (i 2).val < 26 := (i 2).isLt
  unfold halves
  by_cases h : (i 0).val < 8
  · rw [dif_pos h]
    refine (if_pos (by show (i 0).val / 8 = 0; omega)).trans ?_
    pointwise
    exact congrArg (fun a => x (ix3 a (i 1) (i 2))) (Fin.ext (by show ((i 0).val % 8 * 16384 + (i 1).val) / 16384 = (i 0).val; omega))
  · rw [dif_neg h]
    refine (if_neg (by show ¬ (i 0).val / 8 = 0; omega)).trans ?_
    pointwise
    refine congrArg₂ flipped
      (congrArg (fun a => x (ix3 a (i 1) (i 2))) (Fin.ext (by show ((i 0).val % 8 * 16384 + (i 1).val) / 16384 = (i 0).val - 8; omega)))
      (congrArg (BitVec.ofNat 32) ?_)
    show 26 * ((i 0).val % 8 * 16384 + (i 1).val) + (i 2).val = 425984 * ((i 0).val - 8) + 26 * (i 1).val + (i 2).val
    omega

/-- Both programs run, end with equal results, and leave their arguments as they were. -/
theorem algebraic : Cert.algebraic_KernelIdeal_ReferenceIdeal (hKernelIdeal := KernelIdeal.Gen.facts) (hReferenceIdeal := ReferenceIdeal.Gen.facts) := by
  intro m g m' g' _ agree
  refine ⟨_, _, KerWords.run m g, θ_run_mono (RefRun.run m' g') fun r h c => ?_⟩
  obtain ⟨W, hW, hr, ha⟩ := h.1 c
  obtain ⟨h1, h2⟩ := RefFix.main_fix hW
  refine ⟨(hr _).trans (h1.trans ?_), (hr _).trans h2, (hr _).trans ha⟩
  rw [ha, agree c]
  exact (halves_concat _).symm

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the three frames, the idealization, and the equality of the kernel's results with the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.RefRun.frame m ρ,
  trivial, Cert.Tie.algebraic⟩

end Cert.Proof

end
